-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_unmasked [hPre_finite_and_unmasked : Cert.Pre_finite_and_unmasked.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_and_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_and_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite_and_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite_and_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite_and_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_unmasked [hPre_finite_and_unmasked : Cert.Pre_finite_and_unmasked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_and_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_and_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite_and_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite_and_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite_and_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_and_unmasked [hKernelIdeal : Cert.KernelIdeal.Facts] [hPre_finite_and_unmasked : Cert.Pre_finite_and_unmasked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_unmasked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_and_unmasked [hReferenceIdeal : Cert.ReferenceIdeal.Facts] [hPre_finite_and_unmasked : Cert.Pre_finite_and_unmasked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_unmasked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "pad" .f32 0xCE6E6B28#32 ⊥

def algebraic_KernelIdeal_ReferenceIdeal_pre_finite_and_unmasked [hKernelIdeal : Cert.KernelIdeal.Facts] [hReferenceIdeal : Cert.ReferenceIdeal.Facts] [hPre_finite_and_unmasked : Cert.Pre_finite_and_unmasked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_unmasked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_and_unmasked : Cert.Pre_finite_and_unmasked.Facts),
    quiescent_Kernel (hKernel := hKernel)
    ∧ quiescent_KernelIdeal (hKernelIdeal := hKernelIdeal)
    ∧ quiescent_KernelIdeal_pre_finite_and_unmasked (hKernelIdeal := hKernelIdeal) (hPre_finite_and_unmasked := hPre_finite_and_unmasked)
    ∧ quiescent_ReferenceIdeal (hReferenceIdeal := hReferenceIdeal)
    ∧ quiescent_ReferenceIdeal_pre_finite_and_unmasked (hReferenceIdeal := hReferenceIdeal) (hPre_finite_and_unmasked := hPre_finite_and_unmasked)
    ∧ preserves_Kernel_KernelIdeal
    ∧ algebraic_KernelIdeal_ReferenceIdeal_pre_finite_and_unmasked (hKernelIdeal := hKernelIdeal) (hReferenceIdeal := hReferenceIdeal) (hPre_finite_and_unmasked := hPre_finite_and_unmasked)
-- ==== Pre_finite_and_unmasked.lean ====
abbrev S65536x128 : Shape := ⟨2, ![65536, 128]⟩
abbrev S128x21 : Shape := ⟨2, ![128, 21]⟩
abbrev S21 : Shape := ⟨1, ![21]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S65536 : Shape := ⟨1, ![65536]⟩
abbrev S_ : Shape := ⟨0, ![]⟩

class Facts : Prop where
  bcast_S_S65536x128 : S_.BroadcastsInDim S65536x128 (![] : Fin 0 → Fin S65536x128.rank)
  bcast_S_S128x21 : S_.BroadcastsInDim S128x21 (![] : Fin 0 → Fin S128x21.rank)
  bcast_S_S21 : S_.BroadcastsInDim S21 (![] : Fin 0 → Fin S21.rank)
  bcast_S_S65536 : S_.BroadcastsInDim S65536 (![] : Fin 0 → Fin S65536.rank)

variable [Facts]

def fn {F : FTy → Type} [FloatOps F] (main_arg0 : FVec F S65536x128 .f32) (main_arg1 : FVec F S128x21 .f32) (main_arg2 : FVec F S21 .f32) (main_arg3 : FVec F S128x128 .f32) (main_arg4 : FVec F S128 .f32) (main_arg5 : FVec F S128x64 .f32) (main_arg6 : FVec F S64 .f32) (main_arg7 : FVec F S64x1 .f32) (main_arg8 : FVec F S1 .f32) (main_arg9 : IVec S65536 1) (main_arg10 : IVec S65536 1) (main_arg11 : IVec S65536 32) : IVec S65536x128 1 × IVec S128x21 1 × IVec S21 1 × IVec S65536 1 × IVec S65536 1 × IVec S65536 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_v3 : FVec F S128x21 .f32 := Host.absf main_arg1
  let main_cst_0 : FVec F S_ .f32 := constant S_ .f32 0x7F800000#32
  let main_v4 : FVec F S128x21 .f32 := broadcastInDim S128x21 ![] bcast_S_S128x21 main_cst_0
  let main_v5 : IVec S128x21 1 := cmpf .olt main_v3 main_v4
  let main_v6 : FVec F S21 .f32 := Host.absf main_arg2
  let main_cst_1 : FVec F S_ .f32 := constant S_ .f32 0x7F800000#32
  let main_v7 : FVec F S21 .f32 := broadcastInDim S21 ![] bcast_S_S21 main_cst_1
  let main_v8 : IVec S21 1 := cmpf .olt main_v6 main_v7
  let main_v9 : IVec S65536 1 := noti main_arg10
  let main_c : IVec S_ 32 := constantI S_ 32 0#32
  let main_v10 : IVec S65536 32 := broadcastInDim S65536 ![] bcast_S_S65536 main_c
  let main_v11 : IVec S65536 1 := cmpi .sge main_arg11 main_v10
  let main_c_2 : IVec S_ 32 := constantI S_ 32 21#32
  let main_v12 : IVec S65536 32 := broadcastInDim S65536 ![] bcast_S_S65536 main_c_2
  let main_v13 : IVec S65536 1 := cmpi .slt main_arg11 main_v12
  let main_v14 : IVec S65536 1 := andi main_v11 main_v13
  (main_v2, main_v5, main_v8, main_arg9, main_v9, main_v14)
-- ==== Kernel.lean ====
abbrev S65536x128 : Shape := ⟨2, ![65536, 128]⟩
abbrev S128x21 : Shape := ⟨2, ![128, 21]⟩
abbrev S21 : Shape := ⟨1, ![21]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S65536 : Shape := ⟨1, ![65536]⟩
abbrev S_ : Shape := ⟨0, ![]⟩
abbrev S24x128 : Shape := ⟨2, ![24, 128]⟩
abbrev S21x128 : Shape := ⟨2, ![21, 128]⟩
abbrev S24x1 : Shape := ⟨2, ![24, 1]⟩
abbrev S2 : Shape := ⟨1, ![2]⟩
abbrev S32x1x2048 : Shape := ⟨3, ![32, 1, 2048]⟩
abbrev S1x128 : Shape := ⟨2, ![1, 128]⟩
abbrev S1x64 : Shape := ⟨2, ![1, 64]⟩
abbrev S1x1 : Shape := ⟨2, ![1, 1]⟩
abbrev S2048x128 : Shape := ⟨2, ![2048, 128]⟩
abbrev S1x1x2048 : Shape := ⟨3, ![1, 1, 2048]⟩
abbrev S2x2048 : Shape := ⟨2, ![2, 2048]⟩
abbrev S1x2048 : Shape := ⟨2, ![1, 2048]⟩
abbrev S24x2048 : Shape := ⟨2, ![24, 2048]⟩
abbrev S2048 : Shape := ⟨1, ![2048]⟩
abbrev S1x1x1 : Shape := ⟨3, ![1, 1, 1]⟩
abbrev S1x3 : Shape := ⟨2, ![1, 3]⟩
abbrev S3 : Shape := ⟨1, ![3]⟩

abbrev nBuf : Space → Nat
  | .hbm => 39
  | .vmem => 43
  | .smem => 0
  | _ => 0

abbrev bufTy : (tb : Table) → Fin (tcTables nBuf tb) → BufTy
  | .hbm, ⟨0, _⟩ => ⟨S65536x128, .f32⟩
  | .hbm, ⟨1, _⟩ => ⟨S128x21, .f32⟩
  | .hbm, ⟨2, _⟩ => ⟨S21, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S65536, .i1⟩
  | .hbm, ⟨10, _⟩ => ⟨S65536, .i1⟩
  | .hbm, ⟨11, _⟩ => ⟨S65536, .i32⟩
  | .hbm, ⟨12, _⟩ => ⟨S_, .f32⟩
  | .hbm, ⟨13, _⟩ => ⟨S24x128, .f32⟩
  | .hbm, ⟨14, _⟩ => ⟨S21x128, .f32⟩
  | .hbm, ⟨15, _⟩ => ⟨S_, .f32⟩
  | .hbm, ⟨16, _⟩ => ⟨S21x128, .f32⟩
  | .hbm, ⟨17, _⟩ => ⟨S21x128, .f32⟩
  | .hbm, ⟨18, _⟩ => ⟨S_, .i32⟩
  | .hbm, ⟨19, _⟩ => ⟨S1, .i32⟩
  | .hbm, ⟨20, _⟩ => ⟨S24x128, .f32⟩
  | .hbm, ⟨21, _⟩ => ⟨S_, .f32⟩
  | .hbm, ⟨22, _⟩ => ⟨S24x1, .f32⟩
  | .hbm, ⟨23, _⟩ => ⟨S_, .f32⟩
  | .hbm, ⟨24, _⟩ => ⟨S21, .f32⟩
  | .hbm, ⟨25, _⟩ => ⟨S21, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S24x1, .f32⟩
  | .hbm, ⟨32, _⟩ => ⟨S32x1x2048, .i32⟩
  | .hbm, ⟨33, _⟩ => ⟨S1x128, .f32⟩
  | .hbm, ⟨34, _⟩ => ⟨S1x64, .f32⟩
  | .hbm, ⟨35, _⟩ => ⟨S1x1, .f32⟩
  | .hbm, ⟨36, _⟩ => ⟨S1x128, .f32⟩
  | .hbm, ⟨37, _⟩ => ⟨S1x3, .f32⟩
  | .hbm, ⟨38, _⟩ => ⟨S3, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S1x1x2048, .i32⟩
  | .local _ .vmem, ⟨17, _⟩ => ⟨S1x1x2048, .i32⟩
  | .local _ .vmem, ⟨18, _⟩ => ⟨S1x1x2048, .i32⟩
  | .local _ .vmem, ⟨19, _⟩ => ⟨S1x1x2048, .i32⟩
  | .local _ .vmem, ⟨20, _⟩ => ⟨S1x1x2048, .i32⟩
  | .local _ .vmem, ⟨21, _⟩ => ⟨S1x1x2048, .i32⟩
  | .local _ .vmem, ⟨22, _⟩ => ⟨S1x1x2048, .i32⟩
  | .local _ .vmem, ⟨23, _⟩ => ⟨S1x1x2048, .i32⟩
  | .local _ .vmem, ⟨24, _⟩ => ⟨S1x1x2048, .i32⟩
  | .local _ .vmem, ⟨25, _⟩ => ⟨S1x1x2048, .i32⟩
  | .local _ .vmem, ⟨26, _⟩ => ⟨S1x1x2048, .i32⟩
  | .local _ .vmem, ⟨27, _⟩ => ⟨S1x1x2048, .i32⟩
  | .local _ .vmem, ⟨28, _⟩ => ⟨S1x1x2048, .i32⟩
  | .local _ .vmem, ⟨29, _⟩ => ⟨S1x1x2048, .i32⟩
  | .local _ .vmem, ⟨30, _⟩ => ⟨S1x1x2048, .i32⟩
  | .local _ .vmem, ⟨31, _⟩ => ⟨S1x1x2048, .i32⟩
  | .local _ .vmem, ⟨32, _⟩ => ⟨S24x128, .f32⟩
  | .local _ .vmem, ⟨33, _⟩ => ⟨S24x1, .f32⟩
  | .local _ .vmem, ⟨34, _⟩ => ⟨S128x128, .f32⟩
  | .local _ .vmem, ⟨35, _⟩ => ⟨S1x128, .f32⟩
  | .local _ .vmem, ⟨36, _⟩ => ⟨S128x64, .f32⟩
  | .local _ .vmem, ⟨37, _⟩ => ⟨S1x64, .f32⟩
  | .local _ .vmem, ⟨38, _⟩ => ⟨S64x1, .f32⟩
  | .local _ .vmem, ⟨39, _⟩ => ⟨S1x1, .f32⟩
  | .local _ .vmem, ⟨40, _⟩ => ⟨S1x128, .f32⟩
  | .local _ .vmem, ⟨41, _⟩ => ⟨S1x128, .f32⟩
  | .local _ .vmem, ⟨42, _⟩ => ⟨S2x2048, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_c_3 : Ref sig .tc := ⟨.hbm, 26, rfl⟩
abbrev main_v9 : Ref sig .tc := ⟨.hbm, 27, rfl⟩
abbrev main_c_4 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg20_0 : Ref sig .tc := ⟨.vmem, 36, rfl⟩
abbrev cc0_stg21_0 : Ref sig .tc := ⟨.vmem, 37, rfl⟩
abbrev cc0_stg22_0 : Ref sig .tc := ⟨.vmem, 38, rfl⟩
abbrev cc0_stg23_0 : Ref sig .tc := ⟨.vmem, 39, rfl⟩
abbrev cc0_stg24_0 : Ref sig .tc := ⟨.vmem, 40, rfl⟩
abbrev cc0_scratch0 : Ref sig .tc := ⟨.vmem, 41, rfl⟩
abbrev cc0_scratch1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem19_0 : DmaSem sig := 35
abbrev cc0_sem20_0 : DmaSem sig := 36
abbrev cc0_sem21_0 : DmaSem sig := 37
abbrev cc0_sem22_0 : DmaSem sig := 38
abbrev cc0_sem23_0 : DmaSem sig := 39
abbrev cc0_sem24_0 : DmaSem sig := 40

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v248 : BitVec 1 := Scalar.cmpi .eq arg0 c3_i32
  let v249 : BitVec 32 := Scalar.extui v248
  let c0_i32_111 : BitVec 32 := 0#32
  let v250 : BitVec 1 := Scalar.cmpi .ne v249 c0_i32_111
  v250

def cc0_transform_0 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.muli arg0 c8_i32
  let c4_i32 : BitVec 32 := 4#32
  let v1 : BitVec 32 := Scalar.addi v0 c4_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c8_i32 : BitVec 32 := 8#32
  let v0 : BitVec 32 := Scalar.muli arg0 c8_i32
  let c5_i32 : BitVec 32 := 5#32
  let v1 : BitVec 32 := Scalar.addi v0 c5_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let c8_i32 : BitVec 32 := 8#32
  let v0 : BitVec 32 := Scalar.muli arg0 c8_i32
  let c6_i32 : BitVec 32 := 6#32
  let v1 : BitVec 32 := Scalar.addi v0 c6_i32
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let c8_i32 : BitVec 32 := 8#32
  let v0 : BitVec 32 := Scalar.muli arg0 c8_i32
  let c7_i32 : BitVec 32 := 7#32
  let v1 : BitVec 32 := Scalar.addi v0 c7_i32
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_9 (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 3 → Nat :=
  let arg0 : BitVec 32 := BitVec.ofNat 32 (i 0).val
  let c8_i32 : BitVec 32 := 8#32
  let v0 : BitVec 32 := Scalar.muli arg0 c8_i32
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 3 → Nat :=
  let arg0 : BitVec 32 := BitVec.ofNat 32 (i 0).val
  let c8_i32 : BitVec 32 := 8#32
  let v0 : BitVec 32 := Scalar.muli arg0 c8_i32
  let c3_i32 : BitVec 32 := 3#32
  let v1 : BitVec 32 := Scalar.addi v0 c3_i32
  let c0_i32 : BitVec 32 := 0#32
  let c0_i32_0 : BitVec 32 := 0#32
  let c0_i32_1 : BitVec 32 := 0#32
  ![v1.toNat, c0_i32.toNat, c0_i32_0.toNat]

def cc0_transform_12 (i : grid0.Coords) : Fin 3 → Nat :=
  let arg0 : BitVec 32 := BitVec.ofNat 32 (i 0).val
  let c8_i32 : BitVec 32 := 8#32
  let v0 : BitVec 32 := Scalar.muli arg0 c8_i32
  let c4_i32 : BitVec 32 := 4#32
  let v1 : BitVec 32 := Scalar.addi v0 c4_i32
  let c0_i32 : BitVec 32 := 0#32
  let c0_i32_0 : BitVec 32 := 0#32
  let c0_i32_1 : BitVec 32 := 0#32
  ![v1.toNat, c0_i32.toNat, c0_i32_0.toNat]

def cc0_transform_13 (i : grid0.Coords) : Fin 3 → Nat :=
  let arg0 : BitVec 32 := BitVec.ofNat 32 (i 0).val
  let c8_i32 : BitVec 32 := 8#32
  let v0 : BitVec 32 := Scalar.muli arg0 c8_i32
  let c5_i32 : BitVec 32 := 5#32
  let v1 : BitVec 32 := Scalar.addi v0 c5_i32
  let c0_i32 : BitVec 32 := 0#32
  let c0_i32_0 : BitVec 32 := 0#32
  let c0_i32_1 : BitVec 32 := 0#32
  ![v1.toNat, c0_i32.toNat, c0_i32_0.toNat]

def cc0_transform_14 (i : grid0.Coords) : Fin 3 → Nat :=
  let arg0 : BitVec 32 := BitVec.ofNat 32 (i 0).val
  let c8_i32 : BitVec 32 := 8#32
  let v0 : BitVec 32 := Scalar.muli arg0 c8_i32
  let c6_i32 : BitVec 32 := 6#32
  let v1 : BitVec 32 := Scalar.addi v0 c6_i32
  let c0_i32 : BitVec 32 := 0#32
  let c0_i32_0 : BitVec 32 := 0#32
  let c0_i32_1 : BitVec 32 := 0#32
  ![v1.toNat, c0_i32.toNat, c0_i32_0.toNat]

def cc0_transform_15 (i : grid0.Coords) : Fin 3 → Nat :=
  let arg0 : BitVec 32 := BitVec.ofNat 32 (i 0).val
  let c8_i32 : BitVec 32 := 8#32
  let v0 : BitVec 32 := Scalar.muli arg0 c8_i32
  let c7_i32 : BitVec 32 := 7#32
  let v1 : BitVec 32 := Scalar.addi v0 c7_i32
  let c0_i32 : BitVec 32 := 0#32
  let c0_i32_0 : BitVec 32 := 0#32
  let c0_i32_1 : BitVec 32 := 0#32
  ![v1.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x2048 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x2048 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x2048 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x2048 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x2048 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x2048 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x2048 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S24x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S24x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S64x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== KernelIdeal.lean ====
variable {F : FTy → Type} [FloatOps F] [Named F]
def κ : String → Option EReal := fun
  | "pad" => some ⊥
  | _ => none
-- ==== ReferenceIdeal.lean ====
abbrev S65536x128 : Shape := ⟨2, ![65536, 128]⟩
abbrev S128x21 : Shape := ⟨2, ![128, 21]⟩
abbrev S21 : Shape := ⟨1, ![21]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S65536 : Shape := ⟨1, ![65536]⟩
abbrev S_ : Shape := ⟨0, ![]⟩
abbrev S65536x1 : Shape := ⟨2, ![65536, 1]⟩
abbrev S1x128 : Shape := ⟨2, ![1, 128]⟩
abbrev S1x64 : Shape := ⟨2, ![1, 64]⟩
abbrev S1x1 : Shape := ⟨2, ![1, 1]⟩
abbrev S65536x21 : Shape := ⟨2, ![65536, 21]⟩
abbrev S1x21 : Shape := ⟨2, ![1, 21]⟩
abbrev S65536x1x1 : Shape := ⟨3, ![65536, 1, 1]⟩
abbrev S1x1x1 : Shape := ⟨3, ![1, 1, 1]⟩
abbrev S3 : Shape := ⟨1, ![3]⟩

abbrev nBuf : Space → Nat
  | .hbm => 152
  | .vmem => 0
  | .smem => 0
  | _ => 0

abbrev hbmTy0_0 (i : Nat) : BufTy := match i % 128 with
  | 0 => ⟨S65536x128, .f32⟩
  | 1 => ⟨S128x21, .f32⟩
  | 2 => ⟨S21, .f32⟩
  | 3 => ⟨S128x128, .f32⟩
  | 4 => ⟨S128, .f32⟩
  | 5 => ⟨S128x64, .f32⟩
  | 6 => ⟨S64, .f32⟩
  | 7 => ⟨S64x1, .f32⟩
  | 8 => ⟨S1, .f32⟩
  | 9 => ⟨S65536, .i1⟩
  | 10 => ⟨S65536, .i1⟩
  | 11 => ⟨S65536, .i32⟩
  | 12 => ⟨S65536, .f32⟩
  | 13 => ⟨S_, .f32⟩
  | 14 => ⟨S_, .f32⟩
  | 15 => ⟨S_, .f32⟩
  | 16 => ⟨S_, .f32⟩
  | 17 => ⟨S65536x1, .f32⟩
  | 18 => ⟨S65536x128, .f32⟩
  | 19 => ⟨S65536x128, .f32⟩
  | 20 => ⟨S_, .f32⟩
  | 21 => ⟨S128, .f32⟩
  | 22 => ⟨S1x128, .f32⟩
  | 23 => ⟨S1x128, .f32⟩
  | 24 => ⟨S1x128, .f32⟩
  | 25 => ⟨S1x128, .f32⟩
  | 26 => ⟨S1x128, .f32⟩
  | 27 => ⟨S1x128, .f32⟩
  | 28 => ⟨S1x128, .f32⟩
  | 29 => ⟨S1x128, .f32⟩
  | 30 => ⟨S_, .f32⟩
  | 31 => ⟨S1x128, .f32⟩
  | 32 => ⟨S1x128, .f32⟩
  | 33 => ⟨S1x128, .f32⟩
  | 34 => ⟨S_, .f32⟩
  | 35 => ⟨S1x128, .f32⟩
  | 36 => ⟨S1x128, .f32⟩
  | 37 => ⟨S1x128, .f32⟩
  | 38 => ⟨S_, .f32⟩
  | 39 => ⟨S1x128, .f32⟩
  | 40 => ⟨S1x128, .f32⟩
  | 41 => ⟨S_, .f32⟩
  | 42 => ⟨S1x128, .f32⟩
  | 43 => ⟨S1x128, .f32⟩
  | 44 => ⟨S1x128, .f32⟩
  | 45 => ⟨S1x64, .f32⟩
  | 46 => ⟨S1x64, .f32⟩
  | 47 => ⟨S1x64, .f32⟩
  | 48 => ⟨S1x64, .f32⟩
  | 49 => ⟨S1x64, .f32⟩
  | 50 => ⟨S_, .f32⟩
  | 51 => ⟨S1x64, .f32⟩
  | 52 => ⟨S1x64, .f32⟩
  | 53 => ⟨S1x64, .f32⟩
  | 54 => ⟨S_, .f32⟩
  | 55 => ⟨S1x64, .f32⟩
  | 56 => ⟨S1x64, .f32⟩
  | 57 => ⟨S1x64, .f32⟩
  | 58 => ⟨S_, .f32⟩
  | 59 => ⟨S1x64, .f32⟩
  | 60 => ⟨S1x64, .f32⟩
  | 61 => ⟨S_, .f32⟩
  | 62 => ⟨S1x64, .f32⟩
  | 63 => ⟨S1x64, .f32⟩
  | 64 => ⟨S1x64, .f32⟩
  | 65 => ⟨S1x1, .f32⟩
  | 66 => ⟨S1x1, .f32⟩
  | 67 => ⟨S1x1, .f32⟩
  | 68 => ⟨S1, .f32⟩
  | 69 => ⟨S65536x21, .f32⟩
  | 70 => ⟨S1x21, .f32⟩
  | 71 => ⟨S65536x21, .f32⟩
  | 72 => ⟨S65536x21, .f32⟩
  | 73 => ⟨S_, .f32⟩
  | 74 => ⟨S_, .f32⟩
  | 75 => ⟨S_, .f32⟩
  | 76 => ⟨S65536x21, .f32⟩
  | 77 => ⟨S65536x21, .f32⟩
  | 78 => ⟨S_, .f32⟩
  | 79 => ⟨S65536, .f32⟩
  | 80 => ⟨S_, .f32⟩
  | 81 => ⟨S65536, .f32⟩
  | 82 => ⟨S65536, .f32⟩
  | 83 => ⟨S65536x1, .f32⟩
  | 84 => ⟨S65536x21, .f32⟩
  | 85 => ⟨S65536x21, .f32⟩
  | 86 => ⟨S65536x21, .f32⟩
  | 87 => ⟨S_, .f32⟩
  | 88 => ⟨S65536, .f32⟩
  | 89 => ⟨S65536x1, .f32⟩
  | 90 => ⟨S65536x1, .f32⟩
  | 91 => ⟨S65536x21, .f32⟩
  | 92 => ⟨S65536x21, .f32⟩
  | 93 => ⟨S_, .f32⟩
  | 94 => ⟨S65536, .f32⟩
  | 95 => ⟨S_, .f32⟩
  | 96 => ⟨S65536, .f32⟩
  | 97 => ⟨S65536, .f32⟩
  | 98 => ⟨S65536x1, .f32⟩
  | 99 => ⟨S65536x21, .f32⟩
  | 100 => ⟨S65536x21, .f32⟩
  | 101 => ⟨S65536x21, .f32⟩
  | 102 => ⟨S_, .f32⟩
  | 103 => ⟨S65536, .f32⟩
  | 104 => ⟨S65536x1, .f32⟩
  | 105 => ⟨S65536x21, .f32⟩
  | 106 => ⟨S65536x21, .f32⟩
  | 107 => ⟨S65536, .i1⟩
  | 108 => ⟨S65536, .i1⟩
  | 109 => ⟨S65536, .f32⟩
  | 110 => ⟨S65536x1, .i32⟩
  | 111 => ⟨S_, .i32⟩
  | 112 => ⟨S65536x1, .i32⟩
  | 113 => ⟨S65536x1, .i1⟩
  | 114 => ⟨S_, .i32⟩
  | 115 => ⟨S65536x1, .i32⟩
  | 116 => ⟨S65536x1, .i32⟩
  | 117 => ⟨S65536x1, .i32⟩
  | 118 => ⟨S65536x1x1, .i32⟩
  | 119 => ⟨S1, .i32⟩
  | 120 => ⟨S_, .i32⟩
  | 121 => ⟨S65536x1x1, .i32⟩
  | 122 => ⟨S65536x1x1, .i1⟩
  | 123 => ⟨S1x1x1, .i32⟩
  | 124 => ⟨S65536x1x1, .i32⟩
  | 125 => ⟨S65536x1x1, .i1⟩
  | 126 => ⟨S65536x1x1, .i1⟩
  | 127 => ⟨S_, .i1⟩
  | _ => ⟨S65536x128, .f32⟩

abbrev hbmTy0_1 (i : Nat) : BufTy := match i % 128 with
  | 0 => ⟨S65536x1, .i1⟩
  | 1 => ⟨S65536x1, .f32⟩
  | 2 => ⟨S_, .f32⟩
  | 3 => ⟨S65536x1, .f32⟩
  | 4 => ⟨S65536x1, .f32⟩
  | 5 => ⟨S65536, .f32⟩
  | 6 => ⟨S65536, .f32⟩
  | 7 => ⟨S_, .f32⟩
  | 8 => ⟨S_, .f32⟩
  | 9 => ⟨S65536x21, .f32⟩
  | 10 => ⟨S_, .f32⟩
  | 11 => ⟨S65536, .f32⟩
  | 12 => ⟨S65536, .f32⟩
  | 13 => ⟨S_, .f32⟩
  | 14 => ⟨S_, .f32⟩
  | 15 => ⟨S_, .f32⟩
  | 16 => ⟨S_, .f32⟩
  | 17 => ⟨S65536, .f32⟩
  | 18 => ⟨S_, .f32⟩
  | 19 => ⟨S_, .f32⟩
  | 20 => ⟨S_, .f32⟩
  | 21 => ⟨S1, .f32⟩
  | 22 => ⟨S1, .f32⟩
  | 23 => ⟨S3, .f32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_cst_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call0_cst : Ref sig .tc := ⟨.hbm, 78, rfl⟩
abbrev main_call0_v0 : Ref sig .tc := ⟨.hbm, 79, rfl⟩
abbrev main_call0_cst_0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_cst_1 : Ref sig .tc := ⟨.hbm, 87, rfl⟩
abbrev main_call0_v7 : Ref sig .tc := ⟨.hbm, 88, rfl⟩
abbrev main_call0_v8 : Ref sig .tc := ⟨.hbm, 89, rfl⟩
abbrev main_call0_v9 : Ref sig .tc := ⟨.hbm, 90, rfl⟩
abbrev main_call0_v10 : Ref sig .tc := ⟨.hbm, 91, rfl⟩
abbrev main_v53 : Ref sig .tc := ⟨.hbm, 92, rfl⟩
abbrev main_cst_12 : Ref sig .tc := ⟨.hbm, 93, rfl⟩
abbrev main_v54 : Ref sig .tc := ⟨.hbm, 94, rfl⟩
abbrev main_cst_13 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_14 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_call1_c : Ref sig .tc := ⟨.hbm, 111, rfl⟩
abbrev main_call1_v0 : Ref sig .tc := ⟨.hbm, 112, rfl⟩
abbrev main_call1_v1 : Ref sig .tc := ⟨.hbm, 113, rfl⟩
abbrev main_call1_c_0 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_c_1 : Ref sig .tc := ⟨.hbm, 119, rfl⟩
abbrev main_call1_c_2 : Ref sig .tc := ⟨.hbm, 120, rfl⟩
abbrev main_call1_v6 : Ref sig .tc := ⟨.hbm, 121, rfl⟩
abbrev main_call1_v7 : Ref sig .tc := ⟨.hbm, 122, rfl⟩
abbrev main_call1_v8 : Ref sig .tc := ⟨.hbm, 123, rfl⟩
abbrev main_call1_v9 : Ref sig .tc := ⟨.hbm, 124, rfl⟩
abbrev main_call1_v10 : Ref sig .tc := ⟨.hbm, 125, rfl⟩
abbrev main_call1_v11 : Ref sig .tc := ⟨.hbm, 126, rfl⟩
abbrev main_call1_c_3 : Ref sig .tc := ⟨.hbm, 127, rfl⟩
abbrev main_call1_v12 : Ref sig .tc := ⟨.hbm, 128, rfl⟩
abbrev main_call1_v13 : Ref sig .tc := ⟨.hbm, 129, rfl⟩
abbrev main_call1_cst : Ref sig .tc := ⟨.hbm, 130, rfl⟩
abbrev main_call1_v14 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_cst_15 : Ref sig .tc := ⟨.hbm, 135, rfl⟩
abbrev main_v72 : Ref sig .tc := ⟨.hbm, 136, rfl⟩
abbrev main_v73 : Ref sig .tc := ⟨.hbm, 137, rfl⟩
abbrev main_cst_16 : Ref sig .tc := ⟨.hbm, 138, rfl⟩
abbrev main_v74 : Ref sig .tc := ⟨.hbm, 139, rfl⟩
abbrev main_v75 : Ref sig .tc := ⟨.hbm, 140, rfl⟩
abbrev main_cst_17 : Ref sig .tc := ⟨.hbm, 141, rfl⟩
abbrev main_v76 : Ref sig .tc := ⟨.hbm, 142, rfl⟩
abbrev main_cst_18 : Ref sig .tc := ⟨.hbm, 143, rfl⟩
abbrev main_v77 : Ref sig .tc := ⟨.hbm, 144, rfl⟩
abbrev main_v78 : Ref sig .tc := ⟨.hbm, 145, rfl⟩
abbrev main_cst_19 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩

abbrev nD : Nat := 1
abbrev τ : Topo := Topo.v7x

variable {F : FTy → Type} [FloatOps F]
-- ==== Proof.IdealRunA.lean ====
/- The run of the body of `KernelIdeal` (the kernel over the extended reals) at the first grid point (the accumulators are zeroed). Taken from the generated frame of the
   program with a larger budget: the body steps eight streams. Untrusted. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it, and the run steps eight streams: about three minutes)
set_option maxHeartbeats 8000000 in
/-- What the body's stores leave in each output's staging memref, as pieces (last first) IN CASE A (`scf.if` 0 taken, `scf.if` 1 not taken: points 0), WITH the
    proof that on whole staging memrefs — the inputs' at their contents, the outputs it leaves idle (24: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x2048 .i32) (harg9 : arg9.IsWhole) (arg10 : Memref sig .tc .vmem S1x1x2048 .i32) (harg10 : arg10.IsWhole) (arg11 : Memref sig .tc .vmem S1x1x2048 .i32) (harg11 : arg11.IsWhole) (arg12 : Memref sig .tc .vmem S1x1x2048 .i32) (harg12 : arg12.IsWhole) (arg13 : Memref sig .tc .vmem S1x1x2048 .i32) (harg13 : arg13.IsWhole) (arg14 : Memref sig .tc .vmem S1x1x2048 .i32) (harg14 : arg14.IsWhole) (arg15 : Memref sig .tc .vmem S1x1x2048 .i32) (harg15 : arg15.IsWhole) (arg16 : Memref sig .tc .vmem S1x1x2048 .i32) (harg16 : arg16.IsWhole) (arg17 : Memref sig .tc .vmem S24x128 .f32) (harg17 : arg17.IsWhole) (arg18 : Memref sig .tc .vmem S24x1 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x64 .f32) (harg21 : arg21.IsWhole) (arg22 : Memref sig .tc .vmem S1x64 .f32) (harg22 : arg22.IsWhole) (arg23 : Memref sig .tc .vmem S64x1 .f32) (harg23 : arg23.IsWhole) (arg24 : Memref sig .tc .vmem S1x1 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S2x2048 .f32) (harg27 : arg27.IsWhole) (hc0 : cond0_0 i) (hc1 : ¬cond0_1 i)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S1x1x2048 .i32) (x9 : Vec F S1x1x2048 .i32) (x10 : Vec F S1x1x2048 .i32) (x11 : Vec F S1x1x2048 .i32) (x12 : Vec F S1x1x2048 .i32) (x13 : Vec F S1x1x2048 .i32) (x14 : Vec F S1x1x2048 .i32) (x15 : Vec F S1x1x2048 .i32) (x16 : Vec F S24x128 .f32) (x17 : Vec F S24x1 .f32) (x18 : Vec F S128x128 .f32) (x19 : Vec F S1x128 .f32) (x20 : Vec F S128x64 .f32) (x21 : Vec F S1x64 .f32) (x22 : Vec F S64x1 .f32) (x23 : Vec F S1x1 .f32) :
    Σ' (L24 : List (View.Piece (Elt F) S1x128 .f32)), Σ' (LS0 : List (View.Piece (Elt F) S1x128 .f32)), { LS1 : List (View.Piece (Elt F) S2x2048 .f32) //
      ∀ (xi24 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare xi24 ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare xi24 ∗ (∃ f, arg26.view.loc (c : Thread nD τ) ↦[arg26.view.set]{fullShare} arg26.view.writes (Elt F) f LS0) ∗ (∃ f, arg27.view.loc (c : Thread nD τ) ↦[arg27.view.set]{fullShare} arg27.view.writes (Elt F) f LS1)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨[], ?_, ?_, fun xi24 E K => ?run⟩
  case run =>
    simp only [cc0__body_eq_skeleton]; unfold cc0__body_skel
    simp only [k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [HS0]; · iexists _; iexact HS0
    iexists _; iexact HS1

end Cert.KernelIdeal.Gen

end
-- ==== Proof.IdealRunB.lean ====
/- The run of the body of `KernelIdeal` (the kernel over the extended reals) at a middle grid point. Taken from the generated frame of the
   program with a larger budget: the body steps eight streams. Untrusted. -/
module

public import proofs.«01_k».proof.Proof.IdealRunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it, and the run steps eight streams: about three minutes)
set_option maxHeartbeats 8000000 in
/-- What the body's stores leave in each output's staging memref, as pieces (last first) IN CASE B (`scf.if` 0 not taken, `scf.if` 1 not taken: points 1, 2), WITH the
    proof that on whole staging memrefs — the inputs' at their contents, the outputs it leaves idle (24: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x2048 .i32) (harg9 : arg9.IsWhole) (arg10 : Memref sig .tc .vmem S1x1x2048 .i32) (harg10 : arg10.IsWhole) (arg11 : Memref sig .tc .vmem S1x1x2048 .i32) (harg11 : arg11.IsWhole) (arg12 : Memref sig .tc .vmem S1x1x2048 .i32) (harg12 : arg12.IsWhole) (arg13 : Memref sig .tc .vmem S1x1x2048 .i32) (harg13 : arg13.IsWhole) (arg14 : Memref sig .tc .vmem S1x1x2048 .i32) (harg14 : arg14.IsWhole) (arg15 : Memref sig .tc .vmem S1x1x2048 .i32) (harg15 : arg15.IsWhole) (arg16 : Memref sig .tc .vmem S1x1x2048 .i32) (harg16 : arg16.IsWhole) (arg17 : Memref sig .tc .vmem S24x128 .f32) (harg17 : arg17.IsWhole) (arg18 : Memref sig .tc .vmem S24x1 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x64 .f32) (harg21 : arg21.IsWhole) (arg22 : Memref sig .tc .vmem S1x64 .f32) (harg22 : arg22.IsWhole) (arg23 : Memref sig .tc .vmem S64x1 .f32) (harg23 : arg23.IsWhole) (arg24 : Memref sig .tc .vmem S1x1 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S2x2048 .f32) (harg27 : arg27.IsWhole) (hc0 : ¬cond0_0 i) (hc1 : ¬cond0_1 i)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S1x1x2048 .i32) (x9 : Vec F S1x1x2048 .i32) (x10 : Vec F S1x1x2048 .i32) (x11 : Vec F S1x1x2048 .i32) (x12 : Vec F S1x1x2048 .i32) (x13 : Vec F S1x1x2048 .i32) (x14 : Vec F S1x1x2048 .i32) (x15 : Vec F S1x1x2048 .i32) (x16 : Vec F S24x128 .f32) (x17 : Vec F S24x1 .f32) (x18 : Vec F S128x128 .f32) (x19 : Vec F S1x128 .f32) (x20 : Vec F S128x64 .f32) (x21 : Vec F S1x64 .f32) (x22 : Vec F S64x1 .f32) (x23 : Vec F S1x1 .f32) (xs0 : Vec F S1x128 .f32) (xs1 : Vec F S2x2048 .f32) :
    Σ' (L24 : List (View.Piece (Elt F) S1x128 .f32)), Σ' (LS0 : List (View.Piece (Elt F) S1x128 .f32)), { LS1 : List (View.Piece (Elt F) S2x2048 .f32) //
      ∀ (xi24 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare xi24 ∗ owns (c : Thread nD τ) arg26 fullShare xs0 ∗ owns (c : Thread nD τ) arg27 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare xi24 ∗ (∃ f, arg26.view.loc (c : Thread nD τ) ↦[arg26.view.set]{fullShare} arg26.view.writes (Elt F) f LS0) ∗ (∃ f, arg27.view.loc (c : Thread nD τ) ↦[arg27.view.set]{fullShare} arg27.view.writes (Elt F) f LS1)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨[], ?_, ?_, fun xi24 E K => ?run⟩
  case run =>
    simp only [cc0__body_eq_skeleton]; unfold cc0__body_skel
    simp only [k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hfs0; obtain rfl := harg27.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [HS0]; · iexists _; iexact HS0
    iexists _; iexact HS1

end Cert.KernelIdeal.Gen

end
-- ==== Proof.IdealRunC.lean ====
/- The run of the body of `KernelIdeal` (the kernel over the extended reals) at the last grid point (the result is stored). Taken from the generated frame of the
   program with a larger budget: the body steps eight streams. Untrusted. -/
module

public import proofs.«01_k».proof.Proof.IdealRunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it, and the run steps eight streams: about three minutes)
set_option maxHeartbeats 8000000 in
/-- What the body's stores leave in each output's staging memref, as pieces (last first) IN CASE C (`scf.if` 0 not taken, `scf.if` 1 taken: points 3), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x2048 .i32) (harg9 : arg9.IsWhole) (arg10 : Memref sig .tc .vmem S1x1x2048 .i32) (harg10 : arg10.IsWhole) (arg11 : Memref sig .tc .vmem S1x1x2048 .i32) (harg11 : arg11.IsWhole) (arg12 : Memref sig .tc .vmem S1x1x2048 .i32) (harg12 : arg12.IsWhole) (arg13 : Memref sig .tc .vmem S1x1x2048 .i32) (harg13 : arg13.IsWhole) (arg14 : Memref sig .tc .vmem S1x1x2048 .i32) (harg14 : arg14.IsWhole) (arg15 : Memref sig .tc .vmem S1x1x2048 .i32) (harg15 : arg15.IsWhole) (arg16 : Memref sig .tc .vmem S1x1x2048 .i32) (harg16 : arg16.IsWhole) (arg17 : Memref sig .tc .vmem S24x128 .f32) (harg17 : arg17.IsWhole) (arg18 : Memref sig .tc .vmem S24x1 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x64 .f32) (harg21 : arg21.IsWhole) (arg22 : Memref sig .tc .vmem S1x64 .f32) (harg22 : arg22.IsWhole) (arg23 : Memref sig .tc .vmem S64x1 .f32) (harg23 : arg23.IsWhole) (arg24 : Memref sig .tc .vmem S1x1 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S2x2048 .f32) (harg27 : arg27.IsWhole) (hc0 : ¬cond0_0 i) (hc1 : cond0_1 i)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S1x1x2048 .i32) (x9 : Vec F S1x1x2048 .i32) (x10 : Vec F S1x1x2048 .i32) (x11 : Vec F S1x1x2048 .i32) (x12 : Vec F S1x1x2048 .i32) (x13 : Vec F S1x1x2048 .i32) (x14 : Vec F S1x1x2048 .i32) (x15 : Vec F S1x1x2048 .i32) (x16 : Vec F S24x128 .f32) (x17 : Vec F S24x1 .f32) (x18 : Vec F S128x128 .f32) (x19 : Vec F S1x128 .f32) (x20 : Vec F S128x64 .f32) (x21 : Vec F S1x64 .f32) (x22 : Vec F S64x1 .f32) (x23 : Vec F S1x1 .f32) (xs0 : Vec F S1x128 .f32) (xs1 : Vec F S2x2048 .f32) :
    Σ' (L24 : List (View.Piece (Elt F) S1x128 .f32)), Σ' (LS0 : List (View.Piece (Elt F) S1x128 .f32)), { LS1 : List (View.Piece (Elt F) S2x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ owns (c : Thread nD τ) arg26 fullShare xs0 ∗ owns (c : Thread nD τ) arg27 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f LS0) ∗ (∃ f, arg27.view.loc (c : Thread nD τ) ↦[arg27.view.set]{fullShare} arg27.view.writes (Elt F) f LS1)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, fun E K => ?run⟩
  case run =>
    simp only [cc0__body_eq_skeleton]; unfold cc0__body_skel
    simp only [k0_part2_eq_skeleton, k0_part3_eq_skeleton, k0_part4_eq_skeleton, k0_part5_eq_skeleton, k0_part6_eq_skeleton, k0_part7_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg26.eq_unread hfs0; obtain rfl := harg27.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]; · iexists _; iexact H24
    isplitl [HS0]; · iexists _; iexact HS0
    iexists _; iexact HS1

end Cert.KernelIdeal.Gen

end
-- ==== Proof.IdealFrame.lean ====
/- The frame of `KernelIdeal` (the kernel over the extended reals): what each grid point leaves in the two accumulators and in the output block, the
   body's obligation at every point, the run of the launch and the frame. Taken from the generated frame of the program,
   whose three runs (IdealRunA, IdealRunB, IdealRunC) need a larger budget than it sets. Untrusted. -/
module

public import proofs.«01_k».proof.Proof.IdealRunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A stores nothing into output 24 (the window is idle at its points and not written back there):
    no pieces — a placeholder (junk read back) that nothing consults, since at these points the window is neither
    written back nor read at the next point (Lib/Pipeline.lean "Idle points"). -/
def out0_A_24 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x2048 .i32) (harg9 : arg9.IsWhole) (arg10 : Memref sig .tc .vmem S1x1x2048 .i32) (harg10 : arg10.IsWhole) (arg11 : Memref sig .tc .vmem S1x1x2048 .i32) (harg11 : arg11.IsWhole) (arg12 : Memref sig .tc .vmem S1x1x2048 .i32) (harg12 : arg12.IsWhole) (arg13 : Memref sig .tc .vmem S1x1x2048 .i32) (harg13 : arg13.IsWhole) (arg14 : Memref sig .tc .vmem S1x1x2048 .i32) (harg14 : arg14.IsWhole) (arg15 : Memref sig .tc .vmem S1x1x2048 .i32) (harg15 : arg15.IsWhole) (arg16 : Memref sig .tc .vmem S1x1x2048 .i32) (harg16 : arg16.IsWhole) (arg17 : Memref sig .tc .vmem S24x128 .f32) (harg17 : arg17.IsWhole) (arg18 : Memref sig .tc .vmem S24x1 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x64 .f32) (harg21 : arg21.IsWhole) (arg22 : Memref sig .tc .vmem S1x64 .f32) (harg22 : arg22.IsWhole) (arg23 : Memref sig .tc .vmem S64x1 .f32) (harg23 : arg23.IsWhole) (arg24 : Memref sig .tc .vmem S1x1 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S2x2048 .f32) (harg27 : arg27.IsWhole) (hc0 : cond0_0 i) (hc1 : ¬cond0_1 i)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S1x1x2048 .i32) (x9 : Vec F S1x1x2048 .i32) (x10 : Vec F S1x1x2048 .i32) (x11 : Vec F S1x1x2048 .i32) (x12 : Vec F S1x1x2048 .i32) (x13 : Vec F S1x1x2048 .i32) (x14 : Vec F S1x1x2048 .i32) (x15 : Vec F S1x1x2048 .i32) (x16 : Vec F S24x128 .f32) (x17 : Vec F S24x1 .f32) (x18 : Vec F S128x128 .f32) (x19 : Vec F S1x128 .f32) (x20 : Vec F S128x64 .f32) (x21 : Vec F S1x64 .f32) (x22 : Vec F S64x1 .f32) (x23 : Vec F S1x1 .f32) : Vec F S1x128 .f32 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23).1)

/-- Case A's pieces for scratch `arg26`, which the kernel carries between points, cover it: 2 pieces of `S1x128` tiling it (Lib/Ring.lean `Piece.tiledL`). -/
theorem scover0_A_0 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x2048 .i32) (harg9 : arg9.IsWhole) (arg10 : Memref sig .tc .vmem S1x1x2048 .i32) (harg10 : arg10.IsWhole) (arg11 : Memref sig .tc .vmem S1x1x2048 .i32) (harg11 : arg11.IsWhole) (arg12 : Memref sig .tc .vmem S1x1x2048 .i32) (harg12 : arg12.IsWhole) (arg13 : Memref sig .tc .vmem S1x1x2048 .i32) (harg13 : arg13.IsWhole) (arg14 : Memref sig .tc .vmem S1x1x2048 .i32) (harg14 : arg14.IsWhole) (arg15 : Memref sig .tc .vmem S1x1x2048 .i32) (harg15 : arg15.IsWhole) (arg16 : Memref sig .tc .vmem S1x1x2048 .i32) (harg16 : arg16.IsWhole) (arg17 : Memref sig .tc .vmem S24x128 .f32) (harg17 : arg17.IsWhole) (arg18 : Memref sig .tc .vmem S24x1 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x64 .f32) (harg21 : arg21.IsWhole) (arg22 : Memref sig .tc .vmem S1x64 .f32) (harg22 : arg22.IsWhole) (arg23 : Memref sig .tc .vmem S64x1 .f32) (harg23 : arg23.IsWhole) (arg24 : Memref sig .tc .vmem S1x1 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S2x2048 .f32) (harg27 : arg27.IsWhole) (hc0 : cond0_0 i) (hc1 : ¬cond0_1 i)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S1x1x2048 .i32) (x9 : Vec F S1x1x2048 .i32) (x10 : Vec F S1x1x2048 .i32) (x11 : Vec F S1x1x2048 .i32) (x12 : Vec F S1x1x2048 .i32) (x13 : Vec F S1x1x2048 .i32) (x14 : Vec F S1x1x2048 .i32) (x15 : Vec F S1x1x2048 .i32) (x16 : Vec F S24x128 .f32) (x17 : Vec F S24x1 .f32) (x18 : Vec F S128x128 .f32) (x19 : Vec F S1x128 .f32) (x20 : Vec F S128x64 .f32) (x21 : Vec F S1x64 .f32) (x22 : Vec F S64x1 .f32) (x23 : Vec F S1x1 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23).2.1 S1x128.size (by sl_kernel_rfl) y

/-- What case A leaves in scratch `arg26`: its pieces read back over junk. -/
def sout0_A_0 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x2048 .i32) (harg9 : arg9.IsWhole) (arg10 : Memref sig .tc .vmem S1x1x2048 .i32) (harg10 : arg10.IsWhole) (arg11 : Memref sig .tc .vmem S1x1x2048 .i32) (harg11 : arg11.IsWhole) (arg12 : Memref sig .tc .vmem S1x1x2048 .i32) (harg12 : arg12.IsWhole) (arg13 : Memref sig .tc .vmem S1x1x2048 .i32) (harg13 : arg13.IsWhole) (arg14 : Memref sig .tc .vmem S1x1x2048 .i32) (harg14 : arg14.IsWhole) (arg15 : Memref sig .tc .vmem S1x1x2048 .i32) (harg15 : arg15.IsWhole) (arg16 : Memref sig .tc .vmem S1x1x2048 .i32) (harg16 : arg16.IsWhole) (arg17 : Memref sig .tc .vmem S24x128 .f32) (harg17 : arg17.IsWhole) (arg18 : Memref sig .tc .vmem S24x1 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x64 .f32) (harg21 : arg21.IsWhole) (arg22 : Memref sig .tc .vmem S1x64 .f32) (harg22 : arg22.IsWhole) (arg23 : Memref sig .tc .vmem S64x1 .f32) (harg23 : arg23.IsWhole) (arg24 : Memref sig .tc .vmem S1x1 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S2x2048 .f32) (harg27 : arg27.IsWhole) (hc0 : cond0_0 i) (hc1 : ¬cond0_1 i)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S1x1x2048 .i32) (x9 : Vec F S1x1x2048 .i32) (x10 : Vec F S1x1x2048 .i32) (x11 : Vec F S1x1x2048 .i32) (x12 : Vec F S1x1x2048 .i32) (x13 : Vec F S1x1x2048 .i32) (x14 : Vec F S1x1x2048 .i32) (x15 : Vec F S1x1x2048 .i32) (x16 : Vec F S24x128 .f32) (x17 : Vec F S24x1 .f32) (x18 : Vec F S128x128 .f32) (x19 : Vec F S1x128 .f32) (x20 : Vec F S128x64 .f32) (x21 : Vec F S1x64 .f32) (x22 : Vec F S64x1 .f32) (x23 : Vec F S1x1 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23).2.1)

/-- Case A's pieces for scratch `arg27`, which the kernel carries between points, cover it: one of them a store of the WHOLE buffer (Lib/Ring.lean `sl_whole_mem`). -/
theorem scover0_A_1 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x2048 .i32) (harg9 : arg9.IsWhole) (arg10 : Memref sig .tc .vmem S1x1x2048 .i32) (harg10 : arg10.IsWhole) (arg11 : Memref sig .tc .vmem S1x1x2048 .i32) (harg11 : arg11.IsWhole) (arg12 : Memref sig .tc .vmem S1x1x2048 .i32) (harg12 : arg12.IsWhole) (arg13 : Memref sig .tc .vmem S1x1x2048 .i32) (harg13 : arg13.IsWhole) (arg14 : Memref sig .tc .vmem S1x1x2048 .i32) (harg14 : arg14.IsWhole) (arg15 : Memref sig .tc .vmem S1x1x2048 .i32) (harg15 : arg15.IsWhole) (arg16 : Memref sig .tc .vmem S1x1x2048 .i32) (harg16 : arg16.IsWhole) (arg17 : Memref sig .tc .vmem S24x128 .f32) (harg17 : arg17.IsWhole) (arg18 : Memref sig .tc .vmem S24x1 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x64 .f32) (harg21 : arg21.IsWhole) (arg22 : Memref sig .tc .vmem S1x64 .f32) (harg22 : arg22.IsWhole) (arg23 : Memref sig .tc .vmem S64x1 .f32) (harg23 : arg23.IsWhole) (arg24 : Memref sig .tc .vmem S1x1 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S2x2048 .f32) (harg27 : arg27.IsWhole) (hc0 : cond0_0 i) (hc1 : ¬cond0_1 i)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S1x1x2048 .i32) (x9 : Vec F S1x1x2048 .i32) (x10 : Vec F S1x1x2048 .i32) (x11 : Vec F S1x1x2048 .i32) (x12 : Vec F S1x1x2048 .i32) (x13 : Vec F S1x1x2048 .i32) (x14 : Vec F S1x1x2048 .i32) (x15 : Vec F S1x1x2048 .i32) (x16 : Vec F S24x128 .f32) (x17 : Vec F S24x1 .f32) (x18 : Vec F S128x128 .f32) (x19 : Vec F S1x128 .f32) (x20 : Vec F S128x64 .f32) (x21 : Vec F S1x64 .f32) (x22 : Vec F S64x1 .f32) (x23 : Vec F S1x1 .f32) (y : S2x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23).2.2.1 (by sl_whole_mem) y

/-- What case A leaves in scratch `arg27`: its pieces read back over junk. -/
def sout0_A_1 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x2048 .i32) (harg9 : arg9.IsWhole) (arg10 : Memref sig .tc .vmem S1x1x2048 .i32) (harg10 : arg10.IsWhole) (arg11 : Memref sig .tc .vmem S1x1x2048 .i32) (harg11 : arg11.IsWhole) (arg12 : Memref sig .tc .vmem S1x1x2048 .i32) (harg12 : arg12.IsWhole) (arg13 : Memref sig .tc .vmem S1x1x2048 .i32) (harg13 : arg13.IsWhole) (arg14 : Memref sig .tc .vmem S1x1x2048 .i32) (harg14 : arg14.IsWhole) (arg15 : Memref sig .tc .vmem S1x1x2048 .i32) (harg15 : arg15.IsWhole) (arg16 : Memref sig .tc .vmem S1x1x2048 .i32) (harg16 : arg16.IsWhole) (arg17 : Memref sig .tc .vmem S24x128 .f32) (harg17 : arg17.IsWhole) (arg18 : Memref sig .tc .vmem S24x1 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x64 .f32) (harg21 : arg21.IsWhole) (arg22 : Memref sig .tc .vmem S1x64 .f32) (harg22 : arg22.IsWhole) (arg23 : Memref sig .tc .vmem S64x1 .f32) (harg23 : arg23.IsWhole) (arg24 : Memref sig .tc .vmem S1x1 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S2x2048 .f32) (harg27 : arg27.IsWhole) (hc0 : cond0_0 i) (hc1 : ¬cond0_1 i)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S1x1x2048 .i32) (x9 : Vec F S1x1x2048 .i32) (x10 : Vec F S1x1x2048 .i32) (x11 : Vec F S1x1x2048 .i32) (x12 : Vec F S1x1x2048 .i32) (x13 : Vec F S1x1x2048 .i32) (x14 : Vec F S1x1x2048 .i32) (x15 : Vec F S1x1x2048 .i32) (x16 : Vec F S24x128 .f32) (x17 : Vec F S24x1 .f32) (x18 : Vec F S128x128 .f32) (x19 : Vec F S1x128 .f32) (x20 : Vec F S128x64 .f32) (x21 : Vec F S1x64 .f32) (x22 : Vec F S64x1 .f32) (x23 : Vec F S1x1 .f32) : Vec F S2x2048 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23).2.2.1)

/-- Case B stores nothing into output 24 (the window is idle at its points and not written back there):
    no pieces — a placeholder (junk read back) that nothing consults, since at these points the window is neither
    written back nor read at the next point (Lib/Pipeline.lean "Idle points"). -/
def out0_B_24 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x2048 .i32) (harg9 : arg9.IsWhole) (arg10 : Memref sig .tc .vmem S1x1x2048 .i32) (harg10 : arg10.IsWhole) (arg11 : Memref sig .tc .vmem S1x1x2048 .i32) (harg11 : arg11.IsWhole) (arg12 : Memref sig .tc .vmem S1x1x2048 .i32) (harg12 : arg12.IsWhole) (arg13 : Memref sig .tc .vmem S1x1x2048 .i32) (harg13 : arg13.IsWhole) (arg14 : Memref sig .tc .vmem S1x1x2048 .i32) (harg14 : arg14.IsWhole) (arg15 : Memref sig .tc .vmem S1x1x2048 .i32) (harg15 : arg15.IsWhole) (arg16 : Memref sig .tc .vmem S1x1x2048 .i32) (harg16 : arg16.IsWhole) (arg17 : Memref sig .tc .vmem S24x128 .f32) (harg17 : arg17.IsWhole) (arg18 : Memref sig .tc .vmem S24x1 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x64 .f32) (harg21 : arg21.IsWhole) (arg22 : Memref sig .tc .vmem S1x64 .f32) (harg22 : arg22.IsWhole) (arg23 : Memref sig .tc .vmem S64x1 .f32) (harg23 : arg23.IsWhole) (arg24 : Memref sig .tc .vmem S1x1 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S2x2048 .f32) (harg27 : arg27.IsWhole) (hc0 : ¬cond0_0 i) (hc1 : ¬cond0_1 i)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S1x1x2048 .i32) (x9 : Vec F S1x1x2048 .i32) (x10 : Vec F S1x1x2048 .i32) (x11 : Vec F S1x1x2048 .i32) (x12 : Vec F S1x1x2048 .i32) (x13 : Vec F S1x1x2048 .i32) (x14 : Vec F S1x1x2048 .i32) (x15 : Vec F S1x1x2048 .i32) (x16 : Vec F S24x128 .f32) (x17 : Vec F S24x1 .f32) (x18 : Vec F S128x128 .f32) (x19 : Vec F S1x128 .f32) (x20 : Vec F S128x64 .f32) (x21 : Vec F S1x64 .f32) (x22 : Vec F S64x1 .f32) (x23 : Vec F S1x1 .f32) (xs0 : Vec F S1x128 .f32) (xs1 : Vec F S2x2048 .f32) : Vec F S1x128 .f32 :=
  VO0_24.read (Elt F) (VO0_24.writes (Elt F) VO0_24.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23 xs0 xs1).1)

/-- Case B's pieces for scratch `arg26`, which the kernel carries between points, cover it: 1 piece of `S1x128` tiling it (Lib/Ring.lean `Piece.tiledL`). -/
theorem scover0_B_0 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x2048 .i32) (harg9 : arg9.IsWhole) (arg10 : Memref sig .tc .vmem S1x1x2048 .i32) (harg10 : arg10.IsWhole) (arg11 : Memref sig .tc .vmem S1x1x2048 .i32) (harg11 : arg11.IsWhole) (arg12 : Memref sig .tc .vmem S1x1x2048 .i32) (harg12 : arg12.IsWhole) (arg13 : Memref sig .tc .vmem S1x1x2048 .i32) (harg13 : arg13.IsWhole) (arg14 : Memref sig .tc .vmem S1x1x2048 .i32) (harg14 : arg14.IsWhole) (arg15 : Memref sig .tc .vmem S1x1x2048 .i32) (harg15 : arg15.IsWhole) (arg16 : Memref sig .tc .vmem S1x1x2048 .i32) (harg16 : arg16.IsWhole) (arg17 : Memref sig .tc .vmem S24x128 .f32) (harg17 : arg17.IsWhole) (arg18 : Memref sig .tc .vmem S24x1 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x64 .f32) (harg21 : arg21.IsWhole) (arg22 : Memref sig .tc .vmem S1x64 .f32) (harg22 : arg22.IsWhole) (arg23 : Memref sig .tc .vmem S64x1 .f32) (harg23 : arg23.IsWhole) (arg24 : Memref sig .tc .vmem S1x1 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S2x2048 .f32) (harg27 : arg27.IsWhole) (hc0 : ¬cond0_0 i) (hc1 : ¬cond0_1 i)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S1x1x2048 .i32) (x9 : Vec F S1x1x2048 .i32) (x10 : Vec F S1x1x2048 .i32) (x11 : Vec F S1x1x2048 .i32) (x12 : Vec F S1x1x2048 .i32) (x13 : Vec F S1x1x2048 .i32) (x14 : Vec F S1x1x2048 .i32) (x15 : Vec F S1x1x2048 .i32) (x16 : Vec F S24x128 .f32) (x17 : Vec F S24x1 .f32) (x18 : Vec F S128x128 .f32) (x19 : Vec F S1x128 .f32) (x20 : Vec F S128x64 .f32) (x21 : Vec F S1x64 .f32) (x22 : Vec F S64x1 .f32) (x23 : Vec F S1x1 .f32) (xs0 : Vec F S1x128 .f32) (xs1 : Vec F S2x2048 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23 xs0 xs1).2.1 S1x128.size (by sl_kernel_rfl) y

/-- What case B leaves in scratch `arg26`: its pieces read back over junk. -/
def sout0_B_0 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x2048 .i32) (harg9 : arg9.IsWhole) (arg10 : Memref sig .tc .vmem S1x1x2048 .i32) (harg10 : arg10.IsWhole) (arg11 : Memref sig .tc .vmem S1x1x2048 .i32) (harg11 : arg11.IsWhole) (arg12 : Memref sig .tc .vmem S1x1x2048 .i32) (harg12 : arg12.IsWhole) (arg13 : Memref sig .tc .vmem S1x1x2048 .i32) (harg13 : arg13.IsWhole) (arg14 : Memref sig .tc .vmem S1x1x2048 .i32) (harg14 : arg14.IsWhole) (arg15 : Memref sig .tc .vmem S1x1x2048 .i32) (harg15 : arg15.IsWhole) (arg16 : Memref sig .tc .vmem S1x1x2048 .i32) (harg16 : arg16.IsWhole) (arg17 : Memref sig .tc .vmem S24x128 .f32) (harg17 : arg17.IsWhole) (arg18 : Memref sig .tc .vmem S24x1 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x64 .f32) (harg21 : arg21.IsWhole) (arg22 : Memref sig .tc .vmem S1x64 .f32) (harg22 : arg22.IsWhole) (arg23 : Memref sig .tc .vmem S64x1 .f32) (harg23 : arg23.IsWhole) (arg24 : Memref sig .tc .vmem S1x1 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S2x2048 .f32) (harg27 : arg27.IsWhole) (hc0 : ¬cond0_0 i) (hc1 : ¬cond0_1 i)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S1x1x2048 .i32) (x9 : Vec F S1x1x2048 .i32) (x10 : Vec F S1x1x2048 .i32) (x11 : Vec F S1x1x2048 .i32) (x12 : Vec F S1x1x2048 .i32) (x13 : Vec F S1x1x2048 .i32) (x14 : Vec F S1x1x2048 .i32) (x15 : Vec F S1x1x2048 .i32) (x16 : Vec F S24x128 .f32) (x17 : Vec F S24x1 .f32) (x18 : Vec F S128x128 .f32) (x19 : Vec F S1x128 .f32) (x20 : Vec F S128x64 .f32) (x21 : Vec F S1x64 .f32) (x22 : Vec F S64x1 .f32) (x23 : Vec F S1x1 .f32) (xs0 : Vec F S1x128 .f32) (xs1 : Vec F S2x2048 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23 xs0 xs1).2.1)

/-- Case B's pieces for scratch `arg27`, which the kernel carries between points, cover it: 2 pieces of `S1x2048` tiling it (Lib/Ring.lean `Piece.tiledL`). -/
theorem scover0_B_1 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x2048 .i32) (harg9 : arg9.IsWhole) (arg10 : Memref sig .tc .vmem S1x1x2048 .i32) (harg10 : arg10.IsWhole) (arg11 : Memref sig .tc .vmem S1x1x2048 .i32) (harg11 : arg11.IsWhole) (arg12 : Memref sig .tc .vmem S1x1x2048 .i32) (harg12 : arg12.IsWhole) (arg13 : Memref sig .tc .vmem S1x1x2048 .i32) (harg13 : arg13.IsWhole) (arg14 : Memref sig .tc .vmem S1x1x2048 .i32) (harg14 : arg14.IsWhole) (arg15 : Memref sig .tc .vmem S1x1x2048 .i32) (harg15 : arg15.IsWhole) (arg16 : Memref sig .tc .vmem S1x1x2048 .i32) (harg16 : arg16.IsWhole) (arg17 : Memref sig .tc .vmem S24x128 .f32) (harg17 : arg17.IsWhole) (arg18 : Memref sig .tc .vmem S24x1 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x64 .f32) (harg21 : arg21.IsWhole) (arg22 : Memref sig .tc .vmem S1x64 .f32) (harg22 : arg22.IsWhole) (arg23 : Memref sig .tc .vmem S64x1 .f32) (harg23 : arg23.IsWhole) (arg24 : Memref sig .tc .vmem S1x1 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S2x2048 .f32) (harg27 : arg27.IsWhole) (hc0 : ¬cond0_0 i) (hc1 : ¬cond0_1 i)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S1x1x2048 .i32) (x9 : Vec F S1x1x2048 .i32) (x10 : Vec F S1x1x2048 .i32) (x11 : Vec F S1x1x2048 .i32) (x12 : Vec F S1x1x2048 .i32) (x13 : Vec F S1x1x2048 .i32) (x14 : Vec F S1x1x2048 .i32) (x15 : Vec F S1x1x2048 .i32) (x16 : Vec F S24x128 .f32) (x17 : Vec F S24x1 .f32) (x18 : Vec F S128x128 .f32) (x19 : Vec F S1x128 .f32) (x20 : Vec F S128x64 .f32) (x21 : Vec F S1x64 .f32) (x22 : Vec F S64x1 .f32) (x23 : Vec F S1x1 .f32) (xs0 : Vec F S1x128 .f32) (xs1 : Vec F S2x2048 .f32) (y : S2x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23 xs0 xs1).2.2.1 S1x2048.size (by sl_kernel_rfl) y

/-- What case B leaves in scratch `arg27`: its pieces read back over junk. -/
def sout0_B_1 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x2048 .i32) (harg9 : arg9.IsWhole) (arg10 : Memref sig .tc .vmem S1x1x2048 .i32) (harg10 : arg10.IsWhole) (arg11 : Memref sig .tc .vmem S1x1x2048 .i32) (harg11 : arg11.IsWhole) (arg12 : Memref sig .tc .vmem S1x1x2048 .i32) (harg12 : arg12.IsWhole) (arg13 : Memref sig .tc .vmem S1x1x2048 .i32) (harg13 : arg13.IsWhole) (arg14 : Memref sig .tc .vmem S1x1x2048 .i32) (harg14 : arg14.IsWhole) (arg15 : Memref sig .tc .vmem S1x1x2048 .i32) (harg15 : arg15.IsWhole) (arg16 : Memref sig .tc .vmem S1x1x2048 .i32) (harg16 : arg16.IsWhole) (arg17 : Memref sig .tc .vmem S24x128 .f32) (harg17 : arg17.IsWhole) (arg18 : Memref sig .tc .vmem S24x1 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x64 .f32) (harg21 : arg21.IsWhole) (arg22 : Memref sig .tc .vmem S1x64 .f32) (harg22 : arg22.IsWhole) (arg23 : Memref sig .tc .vmem S64x1 .f32) (harg23 : arg23.IsWhole) (arg24 : Memref sig .tc .vmem S1x1 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S2x2048 .f32) (harg27 : arg27.IsWhole) (hc0 : ¬cond0_0 i) (hc1 : ¬cond0_1 i)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S1x1x2048 .i32) (x9 : Vec F S1x1x2048 .i32) (x10 : Vec F S1x1x2048 .i32) (x11 : Vec F S1x1x2048 .i32) (x12 : Vec F S1x1x2048 .i32) (x13 : Vec F S1x1x2048 .i32) (x14 : Vec F S1x1x2048 .i32) (x15 : Vec F S1x1x2048 .i32) (x16 : Vec F S24x128 .f32) (x17 : Vec F S24x1 .f32) (x18 : Vec F S128x128 .f32) (x19 : Vec F S1x128 .f32) (x20 : Vec F S128x64 .f32) (x21 : Vec F S1x64 .f32) (x22 : Vec F S64x1 .f32) (x23 : Vec F S1x1 .f32) (xs0 : Vec F S1x128 .f32) (xs1 : Vec F S2x2048 .f32) : Vec F S2x2048 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23 xs0 xs1).2.2.1)

/-- Case C's pieces for output 24 tile its block (1 store of `S1x128`, checked by the kernel's evaluation: Lib/Ring.lean `Piece.tiledL`, linear in the pieces, through a loop's `@[irreducible]` trip theorem too), so they cover it. -/
theorem cover0_C_24 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x2048 .i32) (harg9 : arg9.IsWhole) (arg10 : Memref sig .tc .vmem S1x1x2048 .i32) (harg10 : arg10.IsWhole) (arg11 : Memref sig .tc .vmem S1x1x2048 .i32) (harg11 : arg11.IsWhole) (arg12 : Memref sig .tc .vmem S1x1x2048 .i32) (harg12 : arg12.IsWhole) (arg13 : Memref sig .tc .vmem S1x1x2048 .i32) (harg13 : arg13.IsWhole) (arg14 : Memref sig .tc .vmem S1x1x2048 .i32) (harg14 : arg14.IsWhole) (arg15 : Memref sig .tc .vmem S1x1x2048 .i32) (harg15 : arg15.IsWhole) (arg16 : Memref sig .tc .vmem S1x1x2048 .i32) (harg16 : arg16.IsWhole) (arg17 : Memref sig .tc .vmem S24x128 .f32) (harg17 : arg17.IsWhole) (arg18 : Memref sig .tc .vmem S24x1 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x64 .f32) (harg21 : arg21.IsWhole) (arg22 : Memref sig .tc .vmem S1x64 .f32) (harg22 : arg22.IsWhole) (arg23 : Memref sig .tc .vmem S64x1 .f32) (harg23 : arg23.IsWhole) (arg24 : Memref sig .tc .vmem S1x1 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S2x2048 .f32) (harg27 : arg27.IsWhole) (hc0 : ¬cond0_0 i) (hc1 : cond0_1 i)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S1x1x2048 .i32) (x9 : Vec F S1x1x2048 .i32) (x10 : Vec F S1x1x2048 .i32) (x11 : Vec F S1x1x2048 .i32) (x12 : Vec F S1x1x2048 .i32) (x13 : Vec F S1x1x2048 .i32) (x14 : Vec F S1x1x2048 .i32) (x15 : Vec F S1x1x2048 .i32) (x16 : Vec F S24x128 .f32) (x17 : Vec F S24x1 .f32) (x18 : Vec F S128x128 .f32) (x19 : Vec F S1x128 .f32) (x20 : Vec F S128x64 .f32) (x21 : Vec F S1x64 .f32) (x22 : Vec F S64x1 .f32) (x23 : Vec F S1x1 .f32) (xs0 : Vec F S1x128 .f32) (xs1 : Vec F S2x2048 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23 xs0 xs1).1 S1x128.size (by sl_kernel_rfl) y

/-- What case C leaves in output 24's staging buffer: its pieces read back over junk. -/
def out0_C_24 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x2048 .i32) (harg9 : arg9.IsWhole) (arg10 : Memref sig .tc .vmem S1x1x2048 .i32) (harg10 : arg10.IsWhole) (arg11 : Memref sig .tc .vmem S1x1x2048 .i32) (harg11 : arg11.IsWhole) (arg12 : Memref sig .tc .vmem S1x1x2048 .i32) (harg12 : arg12.IsWhole) (arg13 : Memref sig .tc .vmem S1x1x2048 .i32) (harg13 : arg13.IsWhole) (arg14 : Memref sig .tc .vmem S1x1x2048 .i32) (harg14 : arg14.IsWhole) (arg15 : Memref sig .tc .vmem S1x1x2048 .i32) (harg15 : arg15.IsWhole) (arg16 : Memref sig .tc .vmem S1x1x2048 .i32) (harg16 : arg16.IsWhole) (arg17 : Memref sig .tc .vmem S24x128 .f32) (harg17 : arg17.IsWhole) (arg18 : Memref sig .tc .vmem S24x1 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x64 .f32) (harg21 : arg21.IsWhole) (arg22 : Memref sig .tc .vmem S1x64 .f32) (harg22 : arg22.IsWhole) (arg23 : Memref sig .tc .vmem S64x1 .f32) (harg23 : arg23.IsWhole) (arg24 : Memref sig .tc .vmem S1x1 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S2x2048 .f32) (harg27 : arg27.IsWhole) (hc0 : ¬cond0_0 i) (hc1 : cond0_1 i)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S1x1x2048 .i32) (x9 : Vec F S1x1x2048 .i32) (x10 : Vec F S1x1x2048 .i32) (x11 : Vec F S1x1x2048 .i32) (x12 : Vec F S1x1x2048 .i32) (x13 : Vec F S1x1x2048 .i32) (x14 : Vec F S1x1x2048 .i32) (x15 : Vec F S1x1x2048 .i32) (x16 : Vec F S24x128 .f32) (x17 : Vec F S24x1 .f32) (x18 : Vec F S128x128 .f32) (x19 : Vec F S1x128 .f32) (x20 : Vec F S128x64 .f32) (x21 : Vec F S1x64 .f32) (x22 : Vec F S64x1 .f32) (x23 : Vec F S1x1 .f32) (xs0 : Vec F S1x128 .f32) (xs1 : Vec F S2x2048 .f32) : Vec F S1x128 .f32 :=
  VO0_24.read (Elt F) (VO0_24.writes (Elt F) VO0_24.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23 xs0 xs1).1)

/-- Case C's pieces for scratch `arg26`, which the kernel carries between points, cover it: 1 piece of `S1x128` tiling it (Lib/Ring.lean `Piece.tiledL`). -/
theorem scover0_C_0 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x2048 .i32) (harg9 : arg9.IsWhole) (arg10 : Memref sig .tc .vmem S1x1x2048 .i32) (harg10 : arg10.IsWhole) (arg11 : Memref sig .tc .vmem S1x1x2048 .i32) (harg11 : arg11.IsWhole) (arg12 : Memref sig .tc .vmem S1x1x2048 .i32) (harg12 : arg12.IsWhole) (arg13 : Memref sig .tc .vmem S1x1x2048 .i32) (harg13 : arg13.IsWhole) (arg14 : Memref sig .tc .vmem S1x1x2048 .i32) (harg14 : arg14.IsWhole) (arg15 : Memref sig .tc .vmem S1x1x2048 .i32) (harg15 : arg15.IsWhole) (arg16 : Memref sig .tc .vmem S1x1x2048 .i32) (harg16 : arg16.IsWhole) (arg17 : Memref sig .tc .vmem S24x128 .f32) (harg17 : arg17.IsWhole) (arg18 : Memref sig .tc .vmem S24x1 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x64 .f32) (harg21 : arg21.IsWhole) (arg22 : Memref sig .tc .vmem S1x64 .f32) (harg22 : arg22.IsWhole) (arg23 : Memref sig .tc .vmem S64x1 .f32) (harg23 : arg23.IsWhole) (arg24 : Memref sig .tc .vmem S1x1 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S2x2048 .f32) (harg27 : arg27.IsWhole) (hc0 : ¬cond0_0 i) (hc1 : cond0_1 i)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S1x1x2048 .i32) (x9 : Vec F S1x1x2048 .i32) (x10 : Vec F S1x1x2048 .i32) (x11 : Vec F S1x1x2048 .i32) (x12 : Vec F S1x1x2048 .i32) (x13 : Vec F S1x1x2048 .i32) (x14 : Vec F S1x1x2048 .i32) (x15 : Vec F S1x1x2048 .i32) (x16 : Vec F S24x128 .f32) (x17 : Vec F S24x1 .f32) (x18 : Vec F S128x128 .f32) (x19 : Vec F S1x128 .f32) (x20 : Vec F S128x64 .f32) (x21 : Vec F S1x64 .f32) (x22 : Vec F S64x1 .f32) (x23 : Vec F S1x1 .f32) (xs0 : Vec F S1x128 .f32) (xs1 : Vec F S2x2048 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23 xs0 xs1).2.1 S1x128.size (by sl_kernel_rfl) y

/-- What case C leaves in scratch `arg26`: its pieces read back over junk. -/
def sout0_C_0 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x2048 .i32) (harg9 : arg9.IsWhole) (arg10 : Memref sig .tc .vmem S1x1x2048 .i32) (harg10 : arg10.IsWhole) (arg11 : Memref sig .tc .vmem S1x1x2048 .i32) (harg11 : arg11.IsWhole) (arg12 : Memref sig .tc .vmem S1x1x2048 .i32) (harg12 : arg12.IsWhole) (arg13 : Memref sig .tc .vmem S1x1x2048 .i32) (harg13 : arg13.IsWhole) (arg14 : Memref sig .tc .vmem S1x1x2048 .i32) (harg14 : arg14.IsWhole) (arg15 : Memref sig .tc .vmem S1x1x2048 .i32) (harg15 : arg15.IsWhole) (arg16 : Memref sig .tc .vmem S1x1x2048 .i32) (harg16 : arg16.IsWhole) (arg17 : Memref sig .tc .vmem S24x128 .f32) (harg17 : arg17.IsWhole) (arg18 : Memref sig .tc .vmem S24x1 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x64 .f32) (harg21 : arg21.IsWhole) (arg22 : Memref sig .tc .vmem S1x64 .f32) (harg22 : arg22.IsWhole) (arg23 : Memref sig .tc .vmem S64x1 .f32) (harg23 : arg23.IsWhole) (arg24 : Memref sig .tc .vmem S1x1 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S2x2048 .f32) (harg27 : arg27.IsWhole) (hc0 : ¬cond0_0 i) (hc1 : cond0_1 i)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S1x1x2048 .i32) (x9 : Vec F S1x1x2048 .i32) (x10 : Vec F S1x1x2048 .i32) (x11 : Vec F S1x1x2048 .i32) (x12 : Vec F S1x1x2048 .i32) (x13 : Vec F S1x1x2048 .i32) (x14 : Vec F S1x1x2048 .i32) (x15 : Vec F S1x1x2048 .i32) (x16 : Vec F S24x128 .f32) (x17 : Vec F S24x1 .f32) (x18 : Vec F S128x128 .f32) (x19 : Vec F S1x128 .f32) (x20 : Vec F S128x64 .f32) (x21 : Vec F S1x64 .f32) (x22 : Vec F S64x1 .f32) (x23 : Vec F S1x1 .f32) (xs0 : Vec F S1x128 .f32) (xs1 : Vec F S2x2048 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23 xs0 xs1).2.1)

/-- Case C's pieces for scratch `arg27`, which the kernel carries between points, cover it: 2 pieces of `S1x2048` tiling it (Lib/Ring.lean `Piece.tiledL`). -/
theorem scover0_C_1 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x2048 .i32) (harg9 : arg9.IsWhole) (arg10 : Memref sig .tc .vmem S1x1x2048 .i32) (harg10 : arg10.IsWhole) (arg11 : Memref sig .tc .vmem S1x1x2048 .i32) (harg11 : arg11.IsWhole) (arg12 : Memref sig .tc .vmem S1x1x2048 .i32) (harg12 : arg12.IsWhole) (arg13 : Memref sig .tc .vmem S1x1x2048 .i32) (harg13 : arg13.IsWhole) (arg14 : Memref sig .tc .vmem S1x1x2048 .i32) (harg14 : arg14.IsWhole) (arg15 : Memref sig .tc .vmem S1x1x2048 .i32) (harg15 : arg15.IsWhole) (arg16 : Memref sig .tc .vmem S1x1x2048 .i32) (harg16 : arg16.IsWhole) (arg17 : Memref sig .tc .vmem S24x128 .f32) (harg17 : arg17.IsWhole) (arg18 : Memref sig .tc .vmem S24x1 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x64 .f32) (harg21 : arg21.IsWhole) (arg22 : Memref sig .tc .vmem S1x64 .f32) (harg22 : arg22.IsWhole) (arg23 : Memref sig .tc .vmem S64x1 .f32) (harg23 : arg23.IsWhole) (arg24 : Memref sig .tc .vmem S1x1 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S2x2048 .f32) (harg27 : arg27.IsWhole) (hc0 : ¬cond0_0 i) (hc1 : cond0_1 i)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S1x1x2048 .i32) (x9 : Vec F S1x1x2048 .i32) (x10 : Vec F S1x1x2048 .i32) (x11 : Vec F S1x1x2048 .i32) (x12 : Vec F S1x1x2048 .i32) (x13 : Vec F S1x1x2048 .i32) (x14 : Vec F S1x1x2048 .i32) (x15 : Vec F S1x1x2048 .i32) (x16 : Vec F S24x128 .f32) (x17 : Vec F S24x1 .f32) (x18 : Vec F S128x128 .f32) (x19 : Vec F S1x128 .f32) (x20 : Vec F S128x64 .f32) (x21 : Vec F S1x64 .f32) (x22 : Vec F S64x1 .f32) (x23 : Vec F S1x1 .f32) (xs0 : Vec F S1x128 .f32) (xs1 : Vec F S2x2048 .f32) (y : S2x2048.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23 xs0 xs1).2.2.1 S1x2048.size (by sl_kernel_rfl) y

/-- What case C leaves in scratch `arg27`: its pieces read back over junk. -/
def sout0_C_1 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x2048 .i32) (harg9 : arg9.IsWhole) (arg10 : Memref sig .tc .vmem S1x1x2048 .i32) (harg10 : arg10.IsWhole) (arg11 : Memref sig .tc .vmem S1x1x2048 .i32) (harg11 : arg11.IsWhole) (arg12 : Memref sig .tc .vmem S1x1x2048 .i32) (harg12 : arg12.IsWhole) (arg13 : Memref sig .tc .vmem S1x1x2048 .i32) (harg13 : arg13.IsWhole) (arg14 : Memref sig .tc .vmem S1x1x2048 .i32) (harg14 : arg14.IsWhole) (arg15 : Memref sig .tc .vmem S1x1x2048 .i32) (harg15 : arg15.IsWhole) (arg16 : Memref sig .tc .vmem S1x1x2048 .i32) (harg16 : arg16.IsWhole) (arg17 : Memref sig .tc .vmem S24x128 .f32) (harg17 : arg17.IsWhole) (arg18 : Memref sig .tc .vmem S24x1 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x64 .f32) (harg21 : arg21.IsWhole) (arg22 : Memref sig .tc .vmem S1x64 .f32) (harg22 : arg22.IsWhole) (arg23 : Memref sig .tc .vmem S64x1 .f32) (harg23 : arg23.IsWhole) (arg24 : Memref sig .tc .vmem S1x1 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S2x2048 .f32) (harg27 : arg27.IsWhole) (hc0 : ¬cond0_0 i) (hc1 : cond0_1 i)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S1x1x2048 .i32) (x9 : Vec F S1x1x2048 .i32) (x10 : Vec F S1x1x2048 .i32) (x11 : Vec F S1x1x2048 .i32) (x12 : Vec F S1x1x2048 .i32) (x13 : Vec F S1x1x2048 .i32) (x14 : Vec F S1x1x2048 .i32) (x15 : Vec F S1x1x2048 .i32) (x16 : Vec F S24x128 .f32) (x17 : Vec F S24x1 .f32) (x18 : Vec F S128x128 .f32) (x19 : Vec F S1x128 .f32) (x20 : Vec F S128x64 .f32) (x21 : Vec F S1x64 .f32) (x22 : Vec F S64x1 .f32) (x23 : Vec F S1x1 .f32) (xs0 : Vec F S1x128 .f32) (xs1 : Vec F S2x2048 .f32) : Vec F S2x2048 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23 xs0 xs1).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x128 .f32 × Vec F S1x128 .f32 × Vec F S2x2048 .f32
  | 0, hn => (out0_A_24 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩))
  | n + 1, hn =>
    if h0 : (n + 1) % 4 = 0 then
      if h1 : (n + 1) % 4 = 3 then
        False.elim (by have hN : n + 1 < 4 := lt_of_lt_of_eq hn (show cfg0.N = 4 from N_0); omega)
      else
        (out0_A_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩))
    else
      if h1 : (n + 1) % 4 = 3 then
        (out0_C_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (outsAt0 c n (Nat.lt_of_succ_lt hn)).2.1 (outsAt0 c n (Nat.lt_of_succ_lt hn)).2.2)
      else
        (out0_B_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 4 = 0) (h1 : ¬t.val % 4 = 3) :
    outsAt0 m c t.val t.isLt = (out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 m c t.val t.isLt = (out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 m c t.val t.isLt = (out0_C_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => (outsAt0 m c t.val t.isLt).1
    | ⟨_ + 25, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t)

set_option maxHeartbeats 28800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).owesAt () t.succ = (dats m 0 c).owesAt () t.castSucc from rfl]
  rw [show (dats m 0 c).Φ t.succ = PhiS m c (t.val + 1) t.isLt from rfl, PhiS_succ]
  have hN : t.val < 4 := lt_of_lt_of_eq t.isLt (show cfg0.N = 4 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [show (dats m 0 c).leavesExact 22 t = owns (c : Thread nD τ) (ms0_22 t) fullShare ((dats m 0 c).after 22 t) from by
      unfold Dat.leavesExact; rw [liveAt0_22 t], after0_22]
      rw [show (dats m 0 c).leavesExact 23 t = owns (c : Thread nD τ) (ms0_23 t) fullShare ((dats m 0 c).after 23 t) from by
      unfold Dat.leavesExact; rw [liveAt0_23 t], after0_23]
      rw [Dat.leavesExact_idle (dats m 0 c) 24 t (idleAt0_24_A t ((hcond0_0 t).mpr h0) (fun h => h1 ((hcond0_1 t).mp h))) (noFlush0_24_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        isplitl [H24]; · iexact H24
        isplitl [HS0]; · iexact HS0
        isplitl [HS1]; · iexact HS1
        iintro ⟨H0, H1, H2, H3, H4, H5, H6, H7, H8, H9, H10, H11, H12, H13, H14, H15, H16, H17, H18, H19, H20, H21, H22, H23, H24, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        iexists _; iexact H24
      · exfalso; have hN : t.val < 4 := lt_of_lt_of_eq t.isLt (show cfg0.N = 4 from N_0); omega
  · by_cases h1 : t.val % 4 = 3
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [show (dats m 0 c).leavesExact 22 t = owns (c : Thread nD τ) (ms0_22 t) fullShare ((dats m 0 c).after 22 t) from by
      unfold Dat.leavesExact; rw [liveAt0_22 t], after0_22]
      rw [show (dats m 0 c).leavesExact 23 t = owns (c : Thread nD τ) (ms0_23 t) fullShare ((dats m 0 c).after 23 t) from by
      unfold Dat.leavesExact; rw [liveAt0_23 t], after0_23]
      rw [show (dats m 0 c).leavesExact 24 t = owns (c : Thread nD τ) (ms0_24 t) fullShare ((dats m 0 c).after 24 t) from by
      unfold Dat.leavesExact; rw [liveAt0_24_C t (fun h => h0 ((hcond0_0 t).mp h)) ((hcond0_1 t).mpr h1)], after0_24]
      by_cases hz : t.val = 0
      · exfalso; have hN : t.val < 4 := lt_of_lt_of_eq t.isLt (show cfg0.N = 4 from N_0); omega
      · rw [PhiS_castSucc m c t, PhiS_pos m c _ _ hz]
        rw [outsAt0_C m c t h0 h1]
        unfold out0_C_24 sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        isplitl [H24]; · iexists _; iexact H24
        isplitl [HS0]; · iexact HS0
        isplitl [HS1]; · iexact HS1
        iintro ⟨H0, H1, H2, H3, H4, H5, H6, H7, H8, H9, H10, H11, H12, H13, H14, H15, H16, H17, H18, H19, H20, H21, H22, H23, ⟨%e24, H24⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        unfold owns; iexists _; isplitr
        swap; · iexact H24
        ipureintro; exact View.read_writes_of_cover _ _ _ _ _ (cover0_C_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [show (dats m 0 c).leavesExact 22 t = owns (c : Thread nD τ) (ms0_22 t) fullShare ((dats m 0 c).after 22 t) from by
      unfold Dat.leavesExact; rw [liveAt0_22 t], after0_22]
      rw [show (dats m 0 c).leavesExact 23 t = owns (c : Thread nD τ) (ms0_23 t) fullShare ((dats m 0 c).after 23 t) from by
      unfold Dat.leavesExact; rw [liveAt0_23 t], after0_23]
      rw [Dat.leavesExact_idle (dats m 0 c) 24 t (idleAt0_24_B t (fun h => h0 ((hcond0_0 t).mp h)) (fun h => h1 ((hcond0_1 t).mp h))) (noFlush0_24_B t (fun h => h0 ((hcond0_0 t).mp h)) (fun h => h1 ((hcond0_1 t).mp h)))]
      by_cases hz : t.val = 0
      · exfalso; have hN : t.val < 4 := lt_of_lt_of_eq t.isLt (show cfg0.N = 4 from N_0); omega
      · rw [PhiS_castSucc m c t, PhiS_pos m c _ _ hz]
        rw [outsAt0_B m c t h0 h1]
        unfold sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        isplitl [H24]; · iexact H24
        isplitl [HS0]; · iexact HS0
        isplitl [HS1]; · iexact HS1
        iintro ⟨H0, H1, H2, H3, H4, H5, H6, H7, H8, H9, H10, H11, H12, H13, H14, H15, H16, H17, H18, H19, H20, H21, H22, H23, H24, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        iexists _; iexact H24

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 4 := N_0; omega)

/-! ## The run and the frame -/

-- `θ_run_frame_around_track_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelIdeal.Gen

end
-- ==== Proof.Consts.lean ====
/- What the constants of the two programs denote over the extended reals: one short fact for each literal, and one for
   the named constant "pad". Hand-written, untrusted. -/
module

public import Idealize.ShloMosaic.PureOps.Ideal
public import Idealize.ShloMosaic.PureOps.Ideal.Laws
public import proofs.«01_k».proof.Defs

@[expose] public section

noncomputable section

namespace Cert.Consts

open Idealize.ShloMosaic

/-- The literal `10.0`, the host's factor `1 / temperature`. -/
theorem ten : Ideal.ofBits .f32 0x41200000#32 = ((10 : ℝ) : EReal) := by
  simp [Ideal.ofBits, Ideal.ieee, -EReal.coe_mul]; norm_num

/-- The literal `2⁻¹⁶`, the kernel's factor for a mean over 65536 positions. -/
theorem invLen : Ideal.ofBits .f32 0x37800000#32 = ((1 / 65536 : ℝ) : EReal) := by
  simp [Ideal.ofBits, Ideal.ieee, -EReal.coe_mul]; norm_num

/-- The literal `1.0`. -/
theorem one : Ideal.ofBits .f32 0x3F800000#32 = ((1 : ℝ) : EReal) := by
  simp [Ideal.ofBits, Ideal.ieee, -EReal.coe_mul]; norm_num

/-- The literal `0.0`. -/
theorem zero : Ideal.ofBits .f32 0x00000000#32 = (0 : EReal) := by
  simp [Ideal.ofBits, Ideal.ieee]

/-- The literal `−∞`, from which the reference starts its maximum. -/
theorem negInf : Ideal.ofBits .f32 0xFF800000#32 = (⊥ : EReal) := by
  simp [Ideal.ofBits, Ideal.ieee]

/-- The kernel's named constant "pad" denotes `−∞`. -/
theorem pad : Named.named (F := Ideal) Cert.KernelIdeal.κ "pad" (φ := .f32) 0xCE6E6B28#32 = (⊥ : EReal) :=
  IdealRules.named_const.ideal_named_scalar _ _ _ _ rfl

end Cert.Consts

end
-- ==== Proof.Block.lean ====
/- One block of the kernel, at `Ideal`: what the body computes of 2048 rows of `encoder_out` — the scores of the 24
   table rows, the action's log-probability and the entropy of each row, and the column sums. Hand-written, untrusted. -/
module

public import proofs.«01_k».proof.Proof.Consts
public import proofs.«01_k».proof.Proof.Gen.KernelIdeal.Skeleton
public import Idealize.ShloMosaic.Lib.Pointwise

@[expose] public section

noncomputable section

namespace Cert.KernelIdeal.Block

open Idealize.ShloMosaic Cert.KernelIdeal.Gen

variable (wt : Vec Ideal S24x128 .f32) (bc : Vec Ideal S24x1 .f32) (x : Vec Ideal S2048x128 .f32) (a : Vec Ideal S1x1x2048 .i32)

/-- The score of table row `v` at the block's row `j`: the scaled logit, and `−∞` in the three padding rows. -/
def score (v : Fin 24) (j : Fin 2048) : EReal :=
  (∑ h : Fin 128, wt (ix2 v h) * x (ix2 j h)) + (if v.val < 21 then bc (ix2 v 0) else ⊥)

/-- The partition function of row `j`. -/
def part (j : Fin 2048) : EReal := ∑ v : Fin 24, Ideal.exp (score wt bc x v j)

/-- The action's log-probability at row `j`: its score less the logarithm of the partition function. -/
def logProb (j : Fin 2048) : EReal :=
  (∑ v : Fin 24, if BitVec.ofNat 32 v.val = a (ix3 0 0 j) then score wt bc x v j else 0) - Ideal.log (part wt bc x j)

/-- The entropy at row `j`: the logarithm of the partition function less the mean score. -/
def entropy (j : Fin 2048) : EReal :=
  Ideal.log (part wt bc x j) - Ideal.div (∑ v : Fin 24, Ideal.exp (score wt bc x v j) * score wt bc x v j) (part wt bc x j)

/-- A row number of the table, as a word, is below 21 exactly when it is. -/
theorem row_lt (v : Fin 24) {α : Type} (p q : α) :
    Scalar.select (IntOp.cmpi .slt (BitVec.ofNat 32 v.val) 21#32) p q = if v.val < 21 then p else q := by
  revert v; intro v; fin_cases v <;> rfl

/-- Selecting at the row whose number is the word `b`. -/
theorem row_eq (v : Fin 24) (b : BitVec 32) {α : Type} (p q : α) :
    Scalar.select (IntOp.cmpi .eq (BitVec.ofNat 32 v.val) b) p q = if BitVec.ofNat 32 v.val = b then p else q := by
  by_cases h : BitVec.ofNat 32 v.val = b
  · simp [Scalar.select, IntOp.cmpi, h]
  · simp [Scalar.select, IntOp.cmpi, h, beq_false_of_ne h]

/-- What the first block's scores hold. -/
theorem pay8_apply (v : Fin 24) (j : Fin 2048) : k0_pay8 wt bc x (ix2 v j) = score wt bc x v j := by
  unfold_payloads
  pointwise [Cert.Consts.pad, row_lt]
  rfl

/-- What the first block's column sums hold. -/
theorem pay12_apply (h : Fin 128) : k0_pay12 x (ix2 0 h) = ∑ j : Fin 2048, x (ix2 j h) := by
  unfold_payloads
  pointwise

/-- What the first block's partition functions hold. -/
theorem pay10_apply (j : Fin 2048) : k0_pay10 wt bc x (ix2 0 j) = part wt bc x j := by
  unfold k0_pay10 k0_pay9
  pointwise [pay8_apply]
  rfl

/-- What the first block's action log-probabilities hold. -/
theorem pay13_apply (j : Fin 2048) : k0_pay13 wt bc x a (ix2 0 j) = logProb wt bc x a j := by
  unfold k0_pay13 k0_pay11
  pointwise [pay8_apply, pay10_apply, row_eq]
  rfl

/-- What the first block's entropies hold. -/
theorem pay14_apply (j : Fin 2048) : k0_pay14 wt bc x (ix2 0 j) = entropy wt bc x j := by
  unfold k0_pay14 k0_pay11 k0_pay9
  pointwise [pay8_apply, pay10_apply]
  rfl

end Cert.KernelIdeal.Block

end
-- ==== Proof.Step.lean ====
/- One grid point of the kernel, at `Ideal`: what its eight streams of 2048 rows add to the three accumulators — the
   column sums, the log-probabilities lane by lane and the entropies lane by lane. Hand-written, untrusted. -/
module

public import proofs.«01_k».proof.Proof.Block

@[expose] public section

noncomputable section

namespace Cert.KernelIdeal.Step

open Idealize.ShloMosaic Cert.KernelIdeal.Gen Cert.KernelIdeal.Block

variable (wt : Vec Ideal S24x128 .f32) (bc : Vec Ideal S24x1 .f32)
  (x0 x1 x2 x3 x4 x5 x6 x7 : Vec Ideal S2048x128 .f32) (a0 a1 a2 a3 a4 a5 a6 a7 : Vec Ideal S1x1x2048 .i32)

/-- The payload the point stores as the new column sums. -/
def poolStore (acc : Vec Ideal S1x128 .f32) : Vec Ideal S1x128 .f32 :=
  k0_pay71 (k0_pay12 x0) (k0_pay19 x1) (k0_pay28 x2) (k0_pay35 x3) (k0_pay44 x4)
    (k0_pay54 x5 k0_pay53 (constant S1x128 .f32 0x00000000#32)) (k0_pay61 x6) x7 acc

/-- The payload the point stores as the new row of log-probabilities. -/
def logStore (acc : Vec Ideal S1x2048 .f32) : Vec Ideal S1x2048 .f32 :=
  k0_pay72 (k0_pay13 wt bc x0 a0) (k0_pay20 (k0_pay6 wt) (k0_pay7 bc) x1 a1)
    (k0_pay29 (k0_pay22 (k0_pay6 wt) (k0_pay7 bc) x2) (k0_pay24 (k0_pay6 wt) (k0_pay7 bc) x2)
      (k0_pay26 a2) (FloatOps.ofBits FTy.f32 0#32))
    (k0_pay36 (k0_pay6 wt) (k0_pay7 bc) x3 a3)
    (k0_pay45 (k0_pay7 bc) (k0_pay38 a4) (k0_pay39 (k0_pay6 wt) x4))
    (k0_pay55 (k0_pay51 (k0_pay6 wt) (k0_pay7 bc) x5 a5) (k0_pay52 (k0_pay6 wt) (k0_pay7 bc) x5))
    (k0_pay62 (k0_pay6 wt) (k0_pay7 bc) x6 a6) (k0_pay64 a7) (k0_pay65 (k0_pay6 wt) (k0_pay7 bc) x7)
    (k0_pay67 (k0_pay6 wt) (k0_pay7 bc) x7) acc

/-- The payload the point stores as the new row of entropies. -/
def entStore (acc : Vec Ideal S1x2048 .f32) : Vec Ideal S1x2048 .f32 :=
  k0_pay1
    (k0_pay70 (k0_pay14 wt bc x0) (k0_pay21 (k0_pay6 wt) (k0_pay7 bc) x1)
      (k0_pay30 (k0_pay24 (k0_pay6 wt) (k0_pay7 bc) x2) (k0_pay25 (k0_pay6 wt) (k0_pay7 bc) x2))
      (k0_pay37 (k0_pay6 wt) (k0_pay7 bc) x3) (k0_pay46 (k0_pay7 bc) (k0_pay39 (k0_pay6 wt) x4))
      (k0_pay56 (k0_pay49 (k0_pay6 wt) (k0_pay7 bc) x5) (k0_pay50 (k0_pay6 wt) (k0_pay7 bc) x5)
        (k0_pay52 (k0_pay6 wt) (k0_pay7 bc) x5))
      (k0_pay63 (k0_pay6 wt) (k0_pay7 bc) x6) (k0_pay67 (k0_pay6 wt) (k0_pay7 bc) x7)
      (k0_pay68 (k0_pay6 wt) (k0_pay7 bc) x7)) acc

/-- The eight streams' payloads are one and the same functions of their blocks: the store of the column sums adds them up. -/
theorem poolStore_eq (acc : Vec Ideal S1x128 .f32) : poolStore x0 x1 x2 x3 x4 x5 x6 x7 acc
    = shapeCast S1x128 (addf acc (addf (addf (addf (addf (addf (addf (addf (k0_pay12 x0) (k0_pay12 x1)) (k0_pay12 x2)) (k0_pay12 x3))
        (k0_pay12 x4)) (k0_pay12 x5)) (k0_pay12 x6)) (k0_pay12 x7))) shapeCasts_S1x128_S1x128 := rfl

theorem logStore_eq (acc : Vec Ideal S1x2048 .f32) : logStore wt bc x0 x1 x2 x3 x4 x5 x6 x7 a0 a1 a2 a3 a4 a5 a6 a7 acc
    = shapeCast S1x2048 (addf acc (addf (addf (addf (addf (addf (addf (addf (k0_pay13 wt bc x0 a0) (k0_pay13 wt bc x1 a1)) (k0_pay13 wt bc x2 a2))
        (k0_pay13 wt bc x3 a3)) (k0_pay13 wt bc x4 a4)) (k0_pay13 wt bc x5 a5)) (k0_pay13 wt bc x6 a6)) (k0_pay13 wt bc x7 a7)))
        shapeCasts_S1x2048_S1x2048 := rfl

theorem entStore_eq (acc : Vec Ideal S1x2048 .f32) : entStore wt bc x0 x1 x2 x3 x4 x5 x6 x7 acc
    = shapeCast S1x2048 (addf acc (addf (addf (addf (addf (addf (addf (addf (k0_pay14 wt bc x0) (k0_pay14 wt bc x1)) (k0_pay14 wt bc x2))
        (k0_pay14 wt bc x3)) (k0_pay14 wt bc x4)) (k0_pay14 wt bc x5)) (k0_pay14 wt bc x6)) (k0_pay14 wt bc x7)))
        shapeCasts_S1x2048_S1x2048 := rfl

/-- The new column sum of column `h`. -/
theorem poolStore_apply (acc : Vec Ideal S1x128 .f32) (h : Fin 128) : poolStore x0 x1 x2 x3 x4 x5 x6 x7 acc (ix2 0 h)
    = acc (ix2 0 h) + ∑ k : Fin 8, ∑ j : Fin 2048, (![x0, x1, x2, x3, x4, x5, x6, x7] k) (ix2 j h) := by
  rw [poolStore_eq, shapeCast_self, Fin.sum_univ_eight]
  simp only [Ideal.addf_def, addf, pay12_apply]
  rfl

/-- The new sum of log-probabilities of lane `j`. -/
theorem logStore_apply (acc : Vec Ideal S1x2048 .f32) (j : Fin 2048) :
    logStore wt bc x0 x1 x2 x3 x4 x5 x6 x7 a0 a1 a2 a3 a4 a5 a6 a7 acc (ix2 0 j)
      = acc (ix2 0 j) + ∑ k : Fin 8, logProb wt bc (![x0, x1, x2, x3, x4, x5, x6, x7] k) (![a0, a1, a2, a3, a4, a5, a6, a7] k) j := by
  rw [logStore_eq, shapeCast_self, Fin.sum_univ_eight]
  simp only [Ideal.addf_def, addf, pay13_apply]
  rfl

/-- The new sum of entropies of lane `j`. -/
theorem entStore_apply (acc : Vec Ideal S1x2048 .f32) (j : Fin 2048) :
    entStore wt bc x0 x1 x2 x3 x4 x5 x6 x7 acc (ix2 0 j)
      = acc (ix2 0 j) + ∑ k : Fin 8, entropy wt bc (![x0, x1, x2, x3, x4, x5, x6, x7] k) j := by
  rw [entStore_eq, shapeCast_self, Fin.sum_univ_eight]
  simp only [Ideal.addf_def, addf, pay14_apply]
  rfl

/-! ## The last point's block: the value head and the totals -/

variable (pool : Vec Ideal S1x128 .f32) (W1 : Vec Ideal S128x128 .f32) (b1 : Vec Ideal S1x128 .f32) (W2 : Vec Ideal S128x64 .f32)
  (b2 : Vec Ideal S1x64 .f32) (W3 : Vec Ideal S64x1 .f32) (b3 : Vec Ideal S1x1 .f32) (r0 r1 : Vec Ideal S1x2048 .f32)

/-- The smooth activation of the value head (the tanh form), with the two constants of the programs. -/
def act (y : EReal) : EReal :=
  y * (Ideal.ofBits .f32 0x3F000000#32 * (1
    + Ideal.tanh (Ideal.ofBits .f32 0x3F4C422A#32 * (y + Ideal.ofBits .f32 0x3D372713#32 * (y * (y * y))))))

/-- The first hidden layer, of a pooled row `p`. -/
def hidden1 (p : Fin 128 → EReal) (c : Fin 128) : EReal := act ((∑ h : Fin 128, p h * W1 (ix2 h c)) + b1 (ix2 0 c))

/-- The second hidden layer. -/
def hidden2 (p : Fin 128 → EReal) (c : Fin 64) : EReal := act ((∑ h : Fin 128, hidden1 W1 b1 p h * W2 (ix2 h c)) + b2 (ix2 0 c))

/-- The value head. -/
def value (p : Fin 128 → EReal) : EReal := (∑ h : Fin 64, hidden2 W1 b1 W2 b2 p h * W3 (ix2 h 0)) + b3 (ix2 0 0)

/-- What the second hidden layer's payload holds. -/
theorem pay3_apply (c : Fin 64) : k0_pay3 pool W1 b1 W2 b2 (ix2 0 c)
    = hidden2 W1 b1 W2 b2 (fun h => pool (ix2 0 h) * ((1 / 65536 : ℝ) : EReal)) c := by
  unfold_payloads
  pointwise [Cert.Consts.invLen]
  rfl

/-- The output row: lane 0 the total of the log-probabilities, lane 1 the mean entropy, lane 2 the value. -/
theorem pay2_apply (v : Vec Ideal S1x64 .f32) (l : Fin 128) : k0_pay2 v W3 b3 r0 r1 (ix2 0 l)
    = Scalar.select (IntOp.cmpi .eq (BitVec.ofNat 32 l.val) 0#32) (∑ j : Fin 2048, r0 (ix2 0 j))
      (Scalar.select (IntOp.cmpi .eq (BitVec.ofNat 32 l.val) 1#32) ((∑ j : Fin 2048, r1 (ix2 0 j)) * ((1 / 65536 : ℝ) : EReal))
        (Scalar.select (IntOp.cmpi .eq (BitVec.ofNat 32 l.val) 2#32) ((∑ h : Fin 64, v (ix2 0 h) * W3 (ix2 h 0)) + b3 (ix2 0 0)) 0)) := by
  unfold_payloads
  pointwise [Cert.Consts.invLen]
  simp only [Finset.univ_unique, Finset.sum_singleton]

/-- The output row the last point stores, from the accumulators. -/
def outStore : Vec Ideal S1x128 .f32 := k0_pay2 (k0_pay3 pool W1 b1 W2 b2) W3 b3 r0 r1

theorem outStore_0 : outStore pool W1 b1 W2 b2 W3 b3 r0 r1 (ix2 0 0) = ∑ j : Fin 2048, r0 (ix2 0 j) := by
  rw [outStore, pay2_apply]; rfl

theorem outStore_1 : outStore pool W1 b1 W2 b2 W3 b3 r0 r1 (ix2 0 1) = (∑ j : Fin 2048, r1 (ix2 0 j)) * ((1 / 65536 : ℝ) : EReal) := by
  rw [outStore, pay2_apply]; rfl

theorem outStore_2 : outStore pool W1 b1 W2 b2 W3 b3 r0 r1 (ix2 0 2)
    = value W1 b1 W2 b2 W3 b3 (fun h => pool (ix2 0 h) * ((1 / 65536 : ℝ) : EReal)) := by
  rw [outStore, pay2_apply]
  simp only [pay3_apply]
  rfl

end Cert.KernelIdeal.Step

end
-- ==== Proof.AccRows.lean ====
/- The two-row accumulator: row `r` of a 2 × 2048 buffer as the body stores and loads it. Hand-written, untrusted. -/
module

public import proofs.«01_k».proof.Proof.Gen.KernelIdeal.Skeleton
public import Idealize.ShloMosaic.Lib.Pipeline.Value
public import Idealize.ShloMosaic.Lib.Pointwise

@[expose] public section

noncomputable section

namespace Cert.KernelIdeal.AccRows

open Idealize.ShloMosaic Cert.KernelIdeal.Gen

theorem hz2 : (![0, 0] : Fin 2 → Nat) = fun _ => 0 := funext fun a => by fin_cases a <;> rfl

theorem hz3 : (![0, 0, 0] : Fin 3 → Nat) = fun _ => 0 := funext fun a => by fin_cases a <;> rfl

/-- The rectangle of the first row, and of the second. -/
abbrev R0 : Rect S2x2048 := Rect.unit (s := S2x2048) ![0, 0] S1x2048.size inb_S2x2048_S1x2048_0_0
abbrev R1 : Rect S2x2048 := Rect.unit (s := S2x2048) ![1, 0] S1x2048.size inb_S2x2048_S1x2048_1_0

theorem idx0 (j : Fin 2048) : R0.toLoadRect.idx (ix2 0 j) = ix2 0 j := by
  funext a
  fin_cases a
  · rfl
  · exact Fin.ext (show 0 + 1 * j.val = j.val by omega)

theorem idx1 (j : Fin 2048) : R1.toLoadRect.idx (ix2 0 j) = ix2 1 j := by
  funext a
  fin_cases a
  · rfl
  · exact Fin.ext (show 0 + 1 * j.val = j.val by omega)

theorem not_mem0 (j : Fin 2048) : (ix2 1 j : S2x2048.Idx) ∉ R0.set := by
  rw [Rect.mem_set_unit]
  intro h
  exact absurd (h 0).2 (show ¬ (1 < 0 + 1) by decide)

theorem not_mem1 (j : Fin 2048) : (ix2 0 j : S2x2048.Idx) ∉ R1.set := by
  rw [Rect.mem_set_unit]
  intro h
  exact absurd (h 0).1 (show ¬ (1 ≤ 0) by decide)

variable (w : Vec Ideal S1x2048 .f32) (L : List (View.Piece (Elt Ideal) S2x2048 .f32)) (j : Fin 2048)

/-- After a store to the second row: the second row, -/
theorem canon_1_1 : View.canon (⟨R1, w⟩ :: L) (ix2 1 j) = w (ix2 0 j) :=
  (congrArg _ (idx1 j).symm).trans (View.canon_cons_emb R1 w L (ix2 0 j))

/-- and the first. -/
theorem canon_1_0 : View.canon (⟨R1, w⟩ :: L) (ix2 0 j) = View.canon L (ix2 0 j) :=
  View.canon_cons_of_not_mem _ L (not_mem1 j)

/-- After a store to the first row: the first row, -/
theorem canon_0_0 : View.canon (⟨R0, w⟩ :: L) (ix2 0 j) = w (ix2 0 j) :=
  (congrArg _ (idx0 j).symm).trans (View.canon_cons_emb R0 w L (ix2 0 j))

/-- and the second. -/
theorem canon_0_1 : View.canon (⟨R0, w⟩ :: L) (ix2 1 j) = View.canon L (ix2 1 j) :=
  View.canon_cons_of_not_mem _ L (not_mem0 j)

variable (v : View sig .tc .vmem S2x2048 .f32)

/-- A load of a row after the writes `L`. -/
theorem load_0 : v.readCov (Val := Elt Ideal) L R0.toLoadRect (ix2 0 j) = View.canon L (ix2 0 j) := by
  rw [View.readCov_eq_canon']; exact congrArg _ (idx0 j)

theorem load_1 : v.readCov (Val := Elt Ideal) L R1.toLoadRect (ix2 0 j) = View.canon L (ix2 1 j) := by
  rw [View.readCov_eq_canon']; exact congrArg _ (idx1 j)

/-- A load of a row of contents `X`. -/
theorem ld_0 (X : Vec Ideal S2x2048 .f32) : View.ld X R0 (ix2 0 j) = X (ix2 0 j) := congrArg X (idx0 j)

theorem ld_1 (X : Vec Ideal S2x2048 .f32) : View.ld X R1 (ix2 0 j) = X (ix2 1 j) := congrArg X (idx1 j)

/-- The zero fills. -/
theorem pay4_apply (h : Fin 128) : (k0_pay4 (F := Ideal)) (ix2 0 h) = 0 := by
  unfold_payloads
  pointwise

theorem pay5_apply (r : Fin 2) : (k0_pay5 (F := Ideal)) (ix2 r j) = 0 := by
  unfold_payloads
  pointwise

end Cert.KernelIdeal.AccRows

end
-- ==== Proof.CaseA.lean ====
/- The first grid point: it fills the accumulators with zero, and leaves in them what its 16384 rows add up to. Hand-written, untrusted. -/
module

public import proofs.«01_k».proof.Proof.IdealRunA
public import proofs.«01_k».proof.Proof.Step
public import proofs.«01_k».proof.Proof.AccRows
public import Idealize.ShloMosaic.Lib.Tactic

@[expose] public section

noncomputable section

namespace Cert.KernelIdeal.CaseA

open Idealize.ShloMosaic Idealize.ShloMosaic.Tactic Cert.KernelIdeal.Gen Cert.KernelIdeal.Block Cert.KernelIdeal.Step Cert.KernelIdeal.AccRows

variable (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x2048 .i32) (harg9 : arg9.IsWhole) (arg10 : Memref sig .tc .vmem S1x1x2048 .i32) (harg10 : arg10.IsWhole) (arg11 : Memref sig .tc .vmem S1x1x2048 .i32) (harg11 : arg11.IsWhole) (arg12 : Memref sig .tc .vmem S1x1x2048 .i32) (harg12 : arg12.IsWhole) (arg13 : Memref sig .tc .vmem S1x1x2048 .i32) (harg13 : arg13.IsWhole) (arg14 : Memref sig .tc .vmem S1x1x2048 .i32) (harg14 : arg14.IsWhole) (arg15 : Memref sig .tc .vmem S1x1x2048 .i32) (harg15 : arg15.IsWhole) (arg16 : Memref sig .tc .vmem S1x1x2048 .i32) (harg16 : arg16.IsWhole) (arg17 : Memref sig .tc .vmem S24x128 .f32) (harg17 : arg17.IsWhole) (arg18 : Memref sig .tc .vmem S24x1 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x64 .f32) (harg21 : arg21.IsWhole) (arg22 : Memref sig .tc .vmem S1x64 .f32) (harg22 : arg22.IsWhole) (arg23 : Memref sig .tc .vmem S64x1 .f32) (harg23 : arg23.IsWhole) (arg24 : Memref sig .tc .vmem S1x1 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S2x2048 .f32) (harg27 : arg27.IsWhole)
  (hc0 : cond0_0 i) (hc1 : ¬cond0_1 i)
  (x0 : Vec Ideal S2048x128 .f32) (x1 : Vec Ideal S2048x128 .f32) (x2 : Vec Ideal S2048x128 .f32) (x3 : Vec Ideal S2048x128 .f32) (x4 : Vec Ideal S2048x128 .f32) (x5 : Vec Ideal S2048x128 .f32) (x6 : Vec Ideal S2048x128 .f32) (x7 : Vec Ideal S2048x128 .f32) (x8 : Vec Ideal S1x1x2048 .i32) (x9 : Vec Ideal S1x1x2048 .i32) (x10 : Vec Ideal S1x1x2048 .i32) (x11 : Vec Ideal S1x1x2048 .i32) (x12 : Vec Ideal S1x1x2048 .i32) (x13 : Vec Ideal S1x1x2048 .i32) (x14 : Vec Ideal S1x1x2048 .i32) (x15 : Vec Ideal S1x1x2048 .i32) (x16 : Vec Ideal S24x128 .f32) (x17 : Vec Ideal S24x1 .f32) (x18 : Vec Ideal S128x128 .f32) (x19 : Vec Ideal S1x128 .f32) (x20 : Vec Ideal S128x64 .f32) (x21 : Vec Ideal S1x64 .f32) (x22 : Vec Ideal S64x1 .f32) (x23 : Vec Ideal S1x1 .f32)

/-- The body's run at the point. -/
abbrev run := kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23

/-- The column sums the point leaves. -/
theorem pool (h : Fin 128) : View.canon (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23).2.1 (ix2 0 h)
    = 0 + ∑ k : Fin 8, ∑ j : Fin 2048, (![x0, x1, x2, x3, x4, x5, x6, x7] k) (ix2 j h) := by
  unfold run kernelRun0_A; dsimp only
  rw [View.canon_cons_unit_zero (S := S1x128) hz2]
  sl_unfold_words
  simp only [View.readAt_eq_ld, Memref.IsWhole.read_unread, View.ld_unit_zero (S := S2048x128) hz2, View.ld_unit_zero (S := S24x128) hz2,
    View.ld_unit_zero (S := S24x1) hz2, View.ld_unit_zero (S := S1x1x2048) hz3, View.ld_unit_zero (S := S1x128) hz2, View.ld_unit_zero (S := S128x128) hz2,
    View.ld_unit_zero (S := S128x64) hz2, View.ld_unit_zero (S := S1x64) hz2, View.ld_unit_zero (S := S64x1) hz2, View.ld_unit_zero (S := S1x1) hz2,
    View.readCov_unit_zero (S := S1x128) _ hz2]
  refine (poolStore_apply _ _ _ _ _ _ _ _ _ h).trans ?_
  rw [pay4_apply]

/-- The log-probabilities the point leaves, lane by lane. -/
theorem logs (j : Fin 2048) : View.canon (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23).2.2.1 (ix2 0 j)
    = 0 + ∑ k : Fin 8, logProb x16 x17 (![x0, x1, x2, x3, x4, x5, x6, x7] k) (![x8, x9, x10, x11, x12, x13, x14, x15] k) j := by
  unfold run kernelRun0_A; dsimp only
  refine (canon_1_0 _ _ j).trans ?_
  sl_unfold_words
  refine (canon_0_0 _ _ j).trans ?_
  simp only [View.readAt_eq_ld, Memref.IsWhole.read_unread, View.ld_unit_zero (S := S2048x128) hz2, View.ld_unit_zero (S := S24x128) hz2,
    View.ld_unit_zero (S := S24x1) hz2, View.ld_unit_zero (S := S1x1x2048) hz3, View.ld_unit_zero (S := S1x128) hz2, View.ld_unit_zero (S := S128x128) hz2,
    View.ld_unit_zero (S := S128x64) hz2, View.ld_unit_zero (S := S1x64) hz2, View.ld_unit_zero (S := S64x1) hz2, View.ld_unit_zero (S := S1x1) hz2,
    View.readCov_unit_zero (S := S1x128) _ hz2]
  refine (logStore_apply _ _ _ _ _ _ _ _ _ _ _ _ _ _ _ _ _ _ _ j).trans ?_
  rw [show _ = _ from load_0 _ j _, View.canon_unit_zero (S := S2x2048) hz2, pay5_apply]

/-- The entropies the point leaves, lane by lane. -/
theorem ents (j : Fin 2048) : View.canon (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23).2.2.1 (ix2 1 j)
    = 0 + ∑ k : Fin 8, entropy x16 x17 (![x0, x1, x2, x3, x4, x5, x6, x7] k) j := by
  unfold run kernelRun0_A; dsimp only
  refine (canon_1_1 _ _ j).trans ?_
  sl_unfold_words
  simp only [View.readAt_eq_ld, Memref.IsWhole.read_unread, View.ld_unit_zero (S := S2048x128) hz2, View.ld_unit_zero (S := S24x128) hz2,
    View.ld_unit_zero (S := S24x1) hz2, View.ld_unit_zero (S := S1x1x2048) hz3, View.ld_unit_zero (S := S1x128) hz2, View.ld_unit_zero (S := S128x128) hz2,
    View.ld_unit_zero (S := S128x64) hz2, View.ld_unit_zero (S := S1x64) hz2, View.ld_unit_zero (S := S64x1) hz2, View.ld_unit_zero (S := S1x1) hz2,
    View.readCov_unit_zero (S := S1x128) _ hz2]
  refine (entStore_apply _ _ _ _ _ _ _ _ _ _ _ j).trans ?_
  rw [show _ = _ from load_1 _ j _, show _ = _ from canon_0_1 _ _ j, View.canon_unit_zero (S := S2x2048) hz2, pay5_apply]

end Cert.KernelIdeal.CaseA

end
-- ==== Proof.CaseB.lean ====
/- A middle grid point: it adds what its 16384 rows add up to onto the accumulators. Hand-written, untrusted. -/
module

public import proofs.«01_k».proof.Proof.IdealRunB
public import proofs.«01_k».proof.Proof.CaseA
public import proofs.«01_k».proof.Proof.AccRows
public import Idealize.ShloMosaic.Lib.Tactic

@[expose] public section

noncomputable section

namespace Cert.KernelIdeal.CaseB

open Idealize.ShloMosaic Idealize.ShloMosaic.Tactic Cert.KernelIdeal.Gen Cert.KernelIdeal.Block Cert.KernelIdeal.Step Cert.KernelIdeal.AccRows

variable (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x2048 .i32) (harg9 : arg9.IsWhole) (arg10 : Memref sig .tc .vmem S1x1x2048 .i32) (harg10 : arg10.IsWhole) (arg11 : Memref sig .tc .vmem S1x1x2048 .i32) (harg11 : arg11.IsWhole) (arg12 : Memref sig .tc .vmem S1x1x2048 .i32) (harg12 : arg12.IsWhole) (arg13 : Memref sig .tc .vmem S1x1x2048 .i32) (harg13 : arg13.IsWhole) (arg14 : Memref sig .tc .vmem S1x1x2048 .i32) (harg14 : arg14.IsWhole) (arg15 : Memref sig .tc .vmem S1x1x2048 .i32) (harg15 : arg15.IsWhole) (arg16 : Memref sig .tc .vmem S1x1x2048 .i32) (harg16 : arg16.IsWhole) (arg17 : Memref sig .tc .vmem S24x128 .f32) (harg17 : arg17.IsWhole) (arg18 : Memref sig .tc .vmem S24x1 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x64 .f32) (harg21 : arg21.IsWhole) (arg22 : Memref sig .tc .vmem S1x64 .f32) (harg22 : arg22.IsWhole) (arg23 : Memref sig .tc .vmem S64x1 .f32) (harg23 : arg23.IsWhole) (arg24 : Memref sig .tc .vmem S1x1 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S2x2048 .f32) (harg27 : arg27.IsWhole)
  (hc0 : ¬cond0_0 i) (hc1 : ¬cond0_1 i)
  (x0 : Vec Ideal S2048x128 .f32) (x1 : Vec Ideal S2048x128 .f32) (x2 : Vec Ideal S2048x128 .f32) (x3 : Vec Ideal S2048x128 .f32) (x4 : Vec Ideal S2048x128 .f32) (x5 : Vec Ideal S2048x128 .f32) (x6 : Vec Ideal S2048x128 .f32) (x7 : Vec Ideal S2048x128 .f32) (x8 : Vec Ideal S1x1x2048 .i32) (x9 : Vec Ideal S1x1x2048 .i32) (x10 : Vec Ideal S1x1x2048 .i32) (x11 : Vec Ideal S1x1x2048 .i32) (x12 : Vec Ideal S1x1x2048 .i32) (x13 : Vec Ideal S1x1x2048 .i32) (x14 : Vec Ideal S1x1x2048 .i32) (x15 : Vec Ideal S1x1x2048 .i32) (x16 : Vec Ideal S24x128 .f32) (x17 : Vec Ideal S24x1 .f32) (x18 : Vec Ideal S128x128 .f32) (x19 : Vec Ideal S1x128 .f32) (x20 : Vec Ideal S128x64 .f32) (x21 : Vec Ideal S1x64 .f32) (x22 : Vec Ideal S64x1 .f32) (x23 : Vec Ideal S1x1 .f32)
  (xs0 : Vec Ideal S1x128 .f32) (xs1 : Vec Ideal S2x2048 .f32)

/-- The body's run at the point. -/
abbrev run := kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23 xs0 xs1

/-- The column sums the point leaves. -/
theorem pool (h : Fin 128) : View.canon (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23 xs0 xs1).2.1 (ix2 0 h)
    = xs0 (ix2 0 h) + ∑ k : Fin 8, ∑ j : Fin 2048, (![x0, x1, x2, x3, x4, x5, x6, x7] k) (ix2 j h) := by
  unfold run kernelRun0_B; dsimp only
  rw [View.canon_unit_zero (S := S1x128) hz2]
  sl_unfold_words
  simp only [View.readAt_eq_ld, Memref.IsWhole.read_unread, View.ld_unit_zero (S := S2048x128) hz2, View.ld_unit_zero (S := S24x128) hz2,
    View.ld_unit_zero (S := S24x1) hz2, View.ld_unit_zero (S := S1x1x2048) hz3, View.ld_unit_zero (S := S1x128) hz2, View.ld_unit_zero (S := S128x128) hz2,
    View.ld_unit_zero (S := S128x64) hz2, View.ld_unit_zero (S := S1x64) hz2, View.ld_unit_zero (S := S64x1) hz2, View.ld_unit_zero (S := S1x1) hz2,
    View.readCov_unit_zero (S := S1x128) _ hz2]
  refine (poolStore_apply _ _ _ _ _ _ _ _ _ h).trans ?_
  rfl

/-- The log-probabilities the point leaves, lane by lane. -/
theorem logs (j : Fin 2048) : View.canon (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23 xs0 xs1).2.2.1 (ix2 0 j)
    = xs1 (ix2 0 j) + ∑ k : Fin 8, logProb x16 x17 (![x0, x1, x2, x3, x4, x5, x6, x7] k) (![x8, x9, x10, x11, x12, x13, x14, x15] k) j := by
  unfold run kernelRun0_B; dsimp only
  refine (canon_1_0 _ _ j).trans ?_
  sl_unfold_words
  refine (canon_0_0 _ _ j).trans ?_
  simp only [View.readAt_eq_ld, Memref.IsWhole.read_unread, View.ld_unit_zero (S := S2048x128) hz2, View.ld_unit_zero (S := S24x128) hz2,
    View.ld_unit_zero (S := S24x1) hz2, View.ld_unit_zero (S := S1x1x2048) hz3, View.ld_unit_zero (S := S1x128) hz2, View.ld_unit_zero (S := S128x128) hz2,
    View.ld_unit_zero (S := S128x64) hz2, View.ld_unit_zero (S := S1x64) hz2, View.ld_unit_zero (S := S64x1) hz2, View.ld_unit_zero (S := S1x1) hz2,
    View.readCov_unit_zero (S := S1x128) _ hz2]
  refine (logStore_apply _ _ _ _ _ _ _ _ _ _ _ _ _ _ _ _ _ _ _ j).trans ?_
  rw [show _ = _ from ld_0 j _]

/-- The entropies the point leaves, lane by lane. -/
theorem ents (j : Fin 2048) : View.canon (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23 xs0 xs1).2.2.1 (ix2 1 j)
    = xs1 (ix2 1 j) + ∑ k : Fin 8, entropy x16 x17 (![x0, x1, x2, x3, x4, x5, x6, x7] k) j := by
  unfold run kernelRun0_B; dsimp only
  refine (canon_1_1 _ _ j).trans ?_
  sl_unfold_words
  simp only [View.readAt_eq_ld, Memref.IsWhole.read_unread, View.ld_unit_zero (S := S2048x128) hz2, View.ld_unit_zero (S := S24x128) hz2,
    View.ld_unit_zero (S := S24x1) hz2, View.ld_unit_zero (S := S1x1x2048) hz3, View.ld_unit_zero (S := S1x128) hz2, View.ld_unit_zero (S := S128x128) hz2,
    View.ld_unit_zero (S := S128x64) hz2, View.ld_unit_zero (S := S1x64) hz2, View.ld_unit_zero (S := S64x1) hz2, View.ld_unit_zero (S := S1x1) hz2,
    View.readCov_unit_zero (S := S1x128) _ hz2]
  refine (entStore_apply _ _ _ _ _ _ _ _ _ _ _ j).trans ?_
  rw [show _ = _ from ld_1 j _]

end Cert.KernelIdeal.CaseB

end
-- ==== Proof.CaseC.lean ====
/- The last grid point: after its own rows it stores the output row, from the accumulators. Hand-written, untrusted. -/
module

public import proofs.«01_k».proof.Proof.IdealRunC
public import proofs.«01_k».proof.Proof.CaseB
public import proofs.«01_k».proof.Proof.AccRows
public import Idealize.ShloMosaic.Lib.Tactic

@[expose] public section

noncomputable section

namespace Cert.KernelIdeal.CaseC

open Idealize.ShloMosaic Idealize.ShloMosaic.Tactic Cert.KernelIdeal.Gen Cert.KernelIdeal.Block Cert.KernelIdeal.Step Cert.KernelIdeal.AccRows

variable (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x2048 .i32) (harg9 : arg9.IsWhole) (arg10 : Memref sig .tc .vmem S1x1x2048 .i32) (harg10 : arg10.IsWhole) (arg11 : Memref sig .tc .vmem S1x1x2048 .i32) (harg11 : arg11.IsWhole) (arg12 : Memref sig .tc .vmem S1x1x2048 .i32) (harg12 : arg12.IsWhole) (arg13 : Memref sig .tc .vmem S1x1x2048 .i32) (harg13 : arg13.IsWhole) (arg14 : Memref sig .tc .vmem S1x1x2048 .i32) (harg14 : arg14.IsWhole) (arg15 : Memref sig .tc .vmem S1x1x2048 .i32) (harg15 : arg15.IsWhole) (arg16 : Memref sig .tc .vmem S1x1x2048 .i32) (harg16 : arg16.IsWhole) (arg17 : Memref sig .tc .vmem S24x128 .f32) (harg17 : arg17.IsWhole) (arg18 : Memref sig .tc .vmem S24x1 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x64 .f32) (harg21 : arg21.IsWhole) (arg22 : Memref sig .tc .vmem S1x64 .f32) (harg22 : arg22.IsWhole) (arg23 : Memref sig .tc .vmem S64x1 .f32) (harg23 : arg23.IsWhole) (arg24 : Memref sig .tc .vmem S1x1 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S2x2048 .f32) (harg27 : arg27.IsWhole)
  (hc0 : ¬cond0_0 i) (hc1 : cond0_1 i)
  (x0 : Vec Ideal S2048x128 .f32) (x1 : Vec Ideal S2048x128 .f32) (x2 : Vec Ideal S2048x128 .f32) (x3 : Vec Ideal S2048x128 .f32) (x4 : Vec Ideal S2048x128 .f32) (x5 : Vec Ideal S2048x128 .f32) (x6 : Vec Ideal S2048x128 .f32) (x7 : Vec Ideal S2048x128 .f32) (x8 : Vec Ideal S1x1x2048 .i32) (x9 : Vec Ideal S1x1x2048 .i32) (x10 : Vec Ideal S1x1x2048 .i32) (x11 : Vec Ideal S1x1x2048 .i32) (x12 : Vec Ideal S1x1x2048 .i32) (x13 : Vec Ideal S1x1x2048 .i32) (x14 : Vec Ideal S1x1x2048 .i32) (x15 : Vec Ideal S1x1x2048 .i32) (x16 : Vec Ideal S24x128 .f32) (x17 : Vec Ideal S24x1 .f32) (x18 : Vec Ideal S128x128 .f32) (x19 : Vec Ideal S1x128 .f32) (x20 : Vec Ideal S128x64 .f32) (x21 : Vec Ideal S1x64 .f32) (x22 : Vec Ideal S64x1 .f32) (x23 : Vec Ideal S1x1 .f32)
  (xs0 : Vec Ideal S1x128 .f32) (xs1 : Vec Ideal S2x2048 .f32)

/-- The body's run at the point. -/
abbrev run := kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23 xs0 xs1

/-- Lane 0 of the output block: the total of the log-probabilities. -/
theorem out_0 : View.canon (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23 xs0 xs1).1 (ix2 0 0) = ∑ j : Fin 2048, (xs1 (ix2 0 j) + ∑ k : Fin 8, logProb x16 x17 (![x0, x1, x2, x3, x4, x5, x6, x7] k) (![x8, x9, x10, x11, x12, x13, x14, x15] k) j) := by
  unfold run kernelRun0_C; dsimp only
  rw [View.canon_unit_zero (S := S1x128) hz2]
  sl_unfold_words
  simp only [View.readAt_eq_ld, Memref.IsWhole.read_unread, View.ld_unit_zero (S := S2048x128) hz2, View.ld_unit_zero (S := S24x128) hz2,
    View.ld_unit_zero (S := S24x1) hz2, View.ld_unit_zero (S := S1x1x2048) hz3, View.ld_unit_zero (S := S1x128) hz2, View.ld_unit_zero (S := S128x128) hz2,
    View.ld_unit_zero (S := S128x64) hz2, View.ld_unit_zero (S := S1x64) hz2, View.ld_unit_zero (S := S64x1) hz2, View.ld_unit_zero (S := S1x1) hz2,
    View.readCov_unit_zero (S := S1x128) _ hz2]
  refine (outStore_0 _ _ _ _ _ _ _ _ _).trans (Finset.sum_congr rfl fun j _ => ?_)
  refine (load_0 _ j _).trans ((canon_1_0 _ _ j).trans ((canon_0_0 _ _ j).trans ?_))
  exact (logStore_apply _ _ _ _ _ _ _ _ _ _ _ _ _ _ _ _ _ _ _ j).trans (congrArg (· + _) (ld_0 j _))

/-- Lane 1 of the output block: the total of the entropies, over the number of positions. -/
theorem out_1 : View.canon (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23 xs0 xs1).1 (ix2 0 1) = (∑ j : Fin 2048, (xs1 (ix2 1 j) + ∑ k : Fin 8, entropy x16 x17 (![x0, x1, x2, x3, x4, x5, x6, x7] k) j)) * ((1 / 65536 : ℝ) : EReal) := by
  unfold run kernelRun0_C; dsimp only
  rw [View.canon_unit_zero (S := S1x128) hz2]
  sl_unfold_words
  simp only [View.readAt_eq_ld, Memref.IsWhole.read_unread, View.ld_unit_zero (S := S2048x128) hz2, View.ld_unit_zero (S := S24x128) hz2,
    View.ld_unit_zero (S := S24x1) hz2, View.ld_unit_zero (S := S1x1x2048) hz3, View.ld_unit_zero (S := S1x128) hz2, View.ld_unit_zero (S := S128x128) hz2,
    View.ld_unit_zero (S := S128x64) hz2, View.ld_unit_zero (S := S1x64) hz2, View.ld_unit_zero (S := S64x1) hz2, View.ld_unit_zero (S := S1x1) hz2,
    View.readCov_unit_zero (S := S1x128) _ hz2]
  refine (outStore_1 _ _ _ _ _ _ _ _ _).trans (congrArg (· * _) (Finset.sum_congr rfl fun j _ => ?_))
  refine (load_1 _ j _).trans ((canon_1_1 _ _ j).trans ?_)
  exact (entStore_apply _ _ _ _ _ _ _ _ _ _ _ j).trans (congrArg (· + _) (ld_1 j _))

/-- Lane 2 of the output block: the value head, of the mean row. -/
theorem out_2 : View.canon (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 x21 x22 x23 xs0 xs1).1 (ix2 0 2)
    = value x18 x19 x20 x21 x22 x23 (fun h => (xs0 (ix2 0 h) + ∑ k : Fin 8, ∑ j : Fin 2048, (![x0, x1, x2, x3, x4, x5, x6, x7] k) (ix2 j h)) * ((1 / 65536 : ℝ) : EReal)) := by
  unfold run kernelRun0_C; dsimp only
  rw [View.canon_unit_zero (S := S1x128) hz2]
  sl_unfold_words
  simp only [View.readAt_eq_ld, Memref.IsWhole.read_unread, View.ld_unit_zero (S := S2048x128) hz2, View.ld_unit_zero (S := S24x128) hz2,
    View.ld_unit_zero (S := S24x1) hz2, View.ld_unit_zero (S := S1x1x2048) hz3, View.ld_unit_zero (S := S1x128) hz2, View.ld_unit_zero (S := S128x128) hz2,
    View.ld_unit_zero (S := S128x64) hz2, View.ld_unit_zero (S := S1x64) hz2, View.ld_unit_zero (S := S64x1) hz2, View.ld_unit_zero (S := S1x1) hz2,
    View.readCov_unit_zero (S := S1x128) _ hz2]
  refine (outStore_2 _ _ _ _ _ _ _ _ _).trans (congrArg (value x18 x19 x20 x21 x22 x23) (funext fun h => congrArg (· * _) ?_))
  exact poolStore_apply _ _ _ _ _ _ _ _ _ h

end Cert.KernelIdeal.CaseC

end
-- ==== Proof.Points.lean ====
/- The two accumulators after every grid point, and the output block after the last, in terms of the points' input
   blocks. Hand-written, untrusted. -/
module

public import proofs.«01_k».proof.Proof.IdealFrame
public import proofs.«01_k».proof.Proof.CaseC

@[expose] public section

noncomputable section

namespace Cert.KernelIdeal.Points

open Idealize.ShloMosaic Cert.KernelIdeal.Gen Cert.KernelIdeal.Block Cert.KernelIdeal.Step

variable (m : (ℓ : Loc nD τ sig) → Buf (Elt Ideal) ℓ) (c : Dev nD)

/-- The eight feature blocks of a point. -/
def feat (t : Fin cfg0.N) (k : Fin 8) : Vec Ideal S2048x128 .f32 := ![iblk m c 0 t, iblk m c 1 t, iblk m c 2 t, iblk m c 3 t, iblk m c 4 t, iblk m c 5 t, iblk m c 6 t, iblk m c 7 t] k

/-- The eight action blocks of a point. -/
def actn (t : Fin cfg0.N) (k : Fin 8) : Vec Ideal S1x1x2048 .i32 := ![iblk m c 8 t, iblk m c 9 t, iblk m c 10 t, iblk m c 11 t, iblk m c 12 t, iblk m c 13 t, iblk m c 14 t, iblk m c 15 t] k

/-- What a point adds to the column sum of column `h`. -/
def poolAdd (t : Fin cfg0.N) (h : Fin 128) : EReal := ∑ k : Fin 8, ∑ j : Fin 2048, feat m c t k (ix2 j h)

/-- What a point adds to the log-probability sum of lane `j`. -/
def logAdd (t : Fin cfg0.N) (j : Fin 2048) : EReal := ∑ k : Fin 8, logProb (iblk m c 16 t) (iblk m c 17 t) (feat m c t k) (actn m c t k) j

/-- What a point adds to the entropy sum of lane `j`. -/
def entAdd (t : Fin cfg0.N) (j : Fin 2048) : EReal := ∑ k : Fin 8, entropy (iblk m c 16 t) (iblk m c 17 t) (feat m c t k) j

/-- The column sums after a point of case A. -/
theorem pool_A (t : Fin cfg0.N) (h0 : t.val % 4 = 0) (h1 : ¬t.val % 4 = 3) (h : Fin 128) :
    (outsAt0 m c t.val t.isLt).2.1 (ix2 0 h) = 0 + poolAdd m c t h := by
  rw [outsAt0_A m c t h0 h1]
  dsimp only
  unfold sout0_A_0
  rw [View.read_writes_junk_apply_eq_canon]
  exact CaseA.pool ..

/-- The log-probability sums after a point of case A. -/
theorem logs_A (t : Fin cfg0.N) (h0 : t.val % 4 = 0) (h1 : ¬t.val % 4 = 3) (j : Fin 2048) :
    (outsAt0 m c t.val t.isLt).2.2 (ix2 0 j) = 0 + logAdd m c t j := by
  rw [outsAt0_A m c t h0 h1]
  dsimp only
  unfold sout0_A_1
  rw [View.read_writes_junk_apply_eq_canon]
  exact CaseA.logs ..

/-- The entropy sums after a point of case A. -/
theorem ents_A (t : Fin cfg0.N) (h0 : t.val % 4 = 0) (h1 : ¬t.val % 4 = 3) (j : Fin 2048) :
    (outsAt0 m c t.val t.isLt).2.2 (ix2 1 j) = 0 + entAdd m c t j := by
  rw [outsAt0_A m c t h0 h1]
  dsimp only
  unfold sout0_A_1
  rw [View.read_writes_junk_apply_eq_canon]
  exact CaseA.ents ..

/-- The column sums after a point of case B. -/
theorem pool_B (t : Fin cfg0.N) (h0 : ¬t.val % 4 = 0) (h1 : ¬t.val % 4 = 3) (h : Fin 128) :
    (outsAt0 m c t.val t.isLt).2.1 (ix2 0 h) = (outsAt0 m c (t.val - 1) (by have := t.isLt; omega)).2.1 (ix2 0 h) + poolAdd m c t h := by
  rw [outsAt0_B m c t h0 h1]
  dsimp only
  unfold sout0_B_0
  rw [View.read_writes_junk_apply_eq_canon]
  exact CaseB.pool ..

/-- The log-probability sums after a point of case B. -/
theorem logs_B (t : Fin cfg0.N) (h0 : ¬t.val % 4 = 0) (h1 : ¬t.val % 4 = 3) (j : Fin 2048) :
    (outsAt0 m c t.val t.isLt).2.2 (ix2 0 j) = (outsAt0 m c (t.val - 1) (by have := t.isLt; omega)).2.2 (ix2 0 j) + logAdd m c t j := by
  rw [outsAt0_B m c t h0 h1]
  dsimp only
  unfold sout0_B_1
  rw [View.read_writes_junk_apply_eq_canon]
  exact CaseB.logs ..

/-- The entropy sums after a point of case B. -/
theorem ents_B (t : Fin cfg0.N) (h0 : ¬t.val % 4 = 0) (h1 : ¬t.val % 4 = 3) (j : Fin 2048) :
    (outsAt0 m c t.val t.isLt).2.2 (ix2 1 j) = (outsAt0 m c (t.val - 1) (by have := t.isLt; omega)).2.2 (ix2 1 j) + entAdd m c t j := by
  rw [outsAt0_B m c t h0 h1]
  dsimp only
  unfold sout0_B_1
  rw [View.read_writes_junk_apply_eq_canon]
  exact CaseB.ents ..

/-- Lane 0 of the output block after the last point: the total of the log-probabilities. -/
theorem out_0 (t : Fin cfg0.N) (h0 : ¬t.val % 4 = 0) (h1 : t.val % 4 = 3) :
    (outsAt0 m c t.val t.isLt).1 (ix2 0 0) = ∑ j : Fin 2048, ((outsAt0 m c (t.val - 1) (by have := t.isLt; omega)).2.2 (ix2 0 j) + logAdd m c t j) := by
  rw [outsAt0_C m c t h0 h1]
  dsimp only
  unfold out0_C_24
  rw [View.read_writes_junk_apply_eq_canon]
  exact CaseC.out_0 ..

/-- Lane 1 of the output block after the last point: the mean entropy. -/
theorem out_1 (t : Fin cfg0.N) (h0 : ¬t.val % 4 = 0) (h1 : t.val % 4 = 3) :
    (outsAt0 m c t.val t.isLt).1 (ix2 0 1) = (∑ j : Fin 2048, ((outsAt0 m c (t.val - 1) (by have := t.isLt; omega)).2.2 (ix2 1 j) + entAdd m c t j)) * ((1 / 65536 : ℝ) : EReal) := by
  rw [outsAt0_C m c t h0 h1]
  dsimp only
  unfold out0_C_24
  rw [View.read_writes_junk_apply_eq_canon]
  exact CaseC.out_1 ..

/-- Lane 2 of the output block after the last point: the value of the mean features. -/
theorem out_2 (t : Fin cfg0.N) (h0 : ¬t.val % 4 = 0) (h1 : t.val % 4 = 3) :
    (outsAt0 m c t.val t.isLt).1 (ix2 0 2) = value (iblk m c 18 t) (iblk m c 19 t) (iblk m c 20 t) (iblk m c 21 t) (iblk m c 22 t) (iblk m c 23 t)
        (fun h => ((outsAt0 m c (t.val - 1) (by have := t.isLt; omega)).2.1 (ix2 0 h) + poolAdd m c t h) * ((1 / 65536 : ℝ) : EReal)) := by
  rw [outsAt0_C m c t h0 h1]
  dsimp only
  unfold out0_C_24
  rw [View.read_writes_junk_apply_eq_canon]
  exact CaseC.out_2 ..

end Cert.KernelIdeal.Points

end
-- ==== Proof.Host.lean ====
/- The arrays the host prepares before the kernel runs: the scaled, transposed and padded weight table, the scaled and
   padded bias column, and the reshaped actions and biases of the value head. Hand-written, untrusted. -/
module

public import proofs.«01_k».proof.Proof.Points
public import Idealize.ShloMosaic.Lib.Routing.OpsOne
public import Idealize.ShloMosaic.Lib.Routing.OpsSet
public import Idealize.ShloMosaic.Lib.Tactic

@[expose] public section

noncomputable section

namespace Cert.KernelIdeal.Host

open Idealize.ShloMosaic Cert.KernelIdeal.Gen

/-- Where an update of the weight table lands: at its own coordinates. -/
theorem lands (idx : IVec S1 32) (hidx : ∀ i, idx i = 0#32) (u : Fin 21) (k : Fin 128) (r : Fin 24) (q : Fin 128) :
    scatter_S24x128_S1_S21x128_01_n_0_0.resultIdx? (ix2 u k) idx = some (ix2 r q) ↔ u.val = r.val ∧ k = q := by
  have hkept : scatter_S24x128_S1_S21x128_01_n_0_0.sKept = [0, 1] := rfl
  have hw0 : scatter_S24x128_S1_S21x128_01_n_0_0.window (ix2 u k) 0 = u.val := rfl
  have hw1 : scatter_S24x128_S1_S21x128_01_n_0_0.window (ix2 u k) 1 = k.val := rfl
  have hs0 : scatter_S24x128_S1_S21x128_01_n_0_0.start (ix2 u k) idx 0 = 0 := by
    unfold ScatterDims.start
    rw [dif_pos (show (0 : Fin 2) ∈ scatter_S24x128_S1_S21x128_01_n_0_0.scatterDimsToOperandDims from List.mem_singleton.mpr rfl), hidx]
    rfl
  have hs1 : scatter_S24x128_S1_S21x128_01_n_0_0.start (ix2 u k) idx 1 = 0 := by
    unfold ScatterDims.start
    rw [dif_neg (fun h : (1 : Fin 2) ∈ scatter_S24x128_S1_S21x128_01_n_0_0.scatterDimsToOperandDims =>
      absurd (List.mem_singleton.mp h) (by decide))]
  refine (Routing.resultIdx?_ix2 _ _ idx r q).trans ?_
  rw [hs0, hs1, hw0, hw1, Fin.ext_iff]
  omega

/-- The weight table's scatter, in a row it writes. -/
theorem table_row (x : S24x128.Idx → EReal) (idx : IVec S1 32) (hidx : ∀ i, idx i = 0#32) (u : S21x128.Idx → EReal) (v : Fin 21) (h : Fin 128) :
    Host.scatter scatter_S24x128_S1_S21x128_01_n_0_0 (fun _ b => b) x idx u (ix2 (v.castLE (by omega)) h) = u (ix2 v h) := by
  refine Routing.scatter_set_hit _ x idx u _ _ (fun k hk => ?_) (ix2 v h) ((lands idx hidx v h _ h).mpr ⟨rfl, rfl⟩)
  obtain ⟨p, q, rfl⟩ : ∃ (p : Fin 21) (q : Fin 128), k = ix2 p q := ⟨k 0, k 1, by funext a; fin_cases a <;> rfl⟩
  obtain ⟨h0, rfl⟩ := (lands idx hidx p q _ h).mp hk
  rw [show p = v from Fin.ext h0]

/-- The bias column's scatter, in a row it writes. -/
theorem column_row (x : S24x1.Idx → EReal) (idx : IVec S2 32) (hidx : ∀ i, idx i = 0#32) (u : S21.Idx → EReal) (v : Fin 21) :
    Host.scatter scatter_S24x1_S2_S21_0_1_01_0 (fun _ b => b) x idx u (ix2 (v.castLE (by omega)) 0) = u (ix1 v) := by
  have L := Routing.lands_column scatter_S24x1_S2_S21_0_1_01_0 rfl rfl rfl idx
  have z : ∀ i, (idx i).toInt = 0 := fun i => by rw [hidx]; rfl
  refine Routing.scatter_set_hit _ x idx u _ _ (fun k hk => ?_) (ix1 v) ((L v _ 0).mpr ⟨?_, ?_⟩)
  · obtain ⟨p, rfl⟩ : ∃ p : Fin 21, k = ix1 p := ⟨k 0, by funext a; fin_cases a; rfl⟩
    have h0 := ((L p _ 0).mp hk).1
    rw [z] at h0
    rw [show p = v from Fin.ext (by simpa using h0)]
  · rw [z]; simp
  · rw [z]; rfl

variable (m : (ℓ : Loc nD τ sig) → Buf (Elt Ideal) ℓ) (c : Dev nD)

/-- The kernel's arguments, as the launch finds them. -/
abbrev A0 : S65536x128.Idx → EReal := (m (c.tc.loc main_arg0) :)
@[inherit_doc A0] abbrev A1 : S128x21.Idx → EReal := (m (c.tc.loc main_arg1) :)
@[inherit_doc A0] abbrev A2 : S21.Idx → EReal := (m (c.tc.loc main_arg2) :)
@[inherit_doc A0] abbrev A3 : S128x128.Idx → EReal := (m (c.tc.loc main_arg3) :)
@[inherit_doc A0] abbrev A4 : S128.Idx → EReal := (m (c.tc.loc main_arg4) :)
@[inherit_doc A0] abbrev A5 : S128x64.Idx → EReal := (m (c.tc.loc main_arg5) :)
@[inherit_doc A0] abbrev A6 : S64.Idx → EReal := (m (c.tc.loc main_arg6) :)
@[inherit_doc A0] abbrev A7 : S64x1.Idx → EReal := (m (c.tc.loc main_arg7) :)
@[inherit_doc A0] abbrev A8 : S1.Idx → EReal := (m (c.tc.loc main_arg8) :)
@[inherit_doc A0] abbrev A11 : S65536.Idx → BitVec 32 := (m (c.tc.loc main_arg11) :)

/-- The arrays the host prepares, as the kernel finds them. -/
abbrev H5 : S24x128.Idx → EReal := V m c main_v5
@[inherit_doc H5] abbrev H12 : S24x1.Idx → EReal := V m c main_v12
@[inherit_doc H5] abbrev H13 : S32x1x2048.Idx → BitVec 32 := V m c main_v13
@[inherit_doc H5] abbrev H14 : S1x128.Idx → EReal := V m c main_v14
@[inherit_doc H5] abbrev H15 : S1x64.Idx → EReal := V m c main_v15
@[inherit_doc H5] abbrev H16 : S1x1.Idx → EReal := V m c main_v16

/-- The weight table in a class's row: the class's column of `W_out`, times ten. -/
theorem wt_at (v : Fin 21) (h : Fin 128) :
    H5 m c (ix2 (v.castLE (by omega)) h)
      = A1 m c (ix2 h v) * ((10 : ℝ) : EReal) := by
  unfold H5 V V0
  simp only [hostOps0, List.flatten_cons, List.flatten_nil, List.append_nil, List.cons_append, List.nil_append]
  after_results
  refine (table_row _ _ (fun _ => rfl) _ v h).trans ?_
  have e : transpose S21x128 [1, 0] (A1 m c) transposes_S128x21_S21x128_1_0 (ix2 v h) = A1 m c (ix2 h v) :=
    congrArg (A1 m c) (by funext a; fin_cases a <;> rfl)
  rw [← e, ← Cert.Consts.ten]
  rfl

/-- The bias column in a class's row: the class's bias, times ten. -/
theorem bc_at (v : Fin 21) :
    H12 m c (ix2 (v.castLE (by omega)) 0)
      = A2 m c (ix1 v) * ((10 : ℝ) : EReal) := by
  unfold H12 V V0
  simp only [hostOps0, List.flatten_cons, List.flatten_nil, List.append_nil, List.cons_append, List.nil_append]
  after_results
  refine (column_row _ _ (fun i => ?_) _ v).trans ?_
  · obtain ⟨p, rfl⟩ : ∃ p : Fin 2, i = ix1 p := ⟨i 0, by funext a; fin_cases a; rfl⟩
    fin_cases p <;> rfl
  · exact (congrArg (A2 m c (ix1 v) * ·) Cert.Consts.ten)

/-- The actions, in 32 rows of 2048. -/
theorem act_at (i : Fin 32) (j : Fin 2048) :
    H13 m c (ix3 i 0 j)
      = A11 m c (ix1 ⟨i.val * 2048 + j.val, by omega⟩) := by
  unfold H13 V V0
  simp only [hostOps0, List.flatten_cons, List.flatten_nil, List.append_nil, List.cons_append, List.nil_append]
  after_results
  exact shapeCast_apply (A11 m c) shapeCasts_S65536_S32x1x2048 (ix3 i 0 j) (ix1 ⟨i.val * 2048 + j.val, by omega⟩)
    (by rewrite [Shape.rowMajor_val_one, Shape.rowMajor_val_three]; show i.val * 2048 + j.val = (i.val * 1 + 0) * 2048 + j.val; omega)

/-- The first bias of the value head, as a row. -/
theorem b1_at (k : Fin 128) :
    H14 m c (ix2 0 k) = A4 m c (ix1 k) := by
  unfold H14 V V0
  simp only [hostOps0, List.flatten_cons, List.flatten_nil, List.append_nil, List.cons_append, List.nil_append]
  after_results
  exact shapeCast_apply (A4 m c) shapeCasts_S128_S1x128 (ix2 0 k) (ix1 k)
    (by rewrite [Shape.rowMajor_val_one, Shape.rowMajor_val_two]; show k.val = 0 * 128 + k.val; omega)

/-- The second bias of the value head, as a row. -/
theorem b2_at (k : Fin 64) :
    H15 m c (ix2 0 k) = A6 m c (ix1 k) := by
  unfold H15 V V0
  simp only [hostOps0, List.flatten_cons, List.flatten_nil, List.append_nil, List.cons_append, List.nil_append]
  after_results
  exact shapeCast_apply (A6 m c) shapeCasts_S64_S1x64 (ix2 0 k) (ix1 k)
    (by rewrite [Shape.rowMajor_val_one, Shape.rowMajor_val_two]; show k.val = 0 * 64 + k.val; omega)

/-- The last bias of the value head, as a row. -/
theorem b3_at (k : Fin 1) :
    H16 m c (ix2 0 k) = A8 m c (ix1 k) := by
  unfold H16 V V0
  simp only [hostOps0, List.flatten_cons, List.flatten_nil, List.append_nil, List.cons_append, List.nil_append]
  after_results
  exact shapeCast_apply (A8 m c) shapeCasts_S1_S1x1 (ix2 0 k) (ix1 k)
    (by rewrite [Shape.rowMajor_val_one, Shape.rowMajor_val_two]; show k.val = 0 * 1 + k.val; omega)

end Cert.KernelIdeal.Host

end
-- ==== Proof.Blocks.lean ====
/- What each window's block holds: eight blocks of 2048 rows of the features and of the actions at every point, and the
   small arrays whole. Hand-written, untrusted. -/
module

public import proofs.«01_k».proof.Proof.Host

@[expose] public section

noncomputable section

namespace Cert.KernelIdeal.Blocks

open Idealize.ShloMosaic Cert.KernelIdeal.Gen Cert.KernelIdeal.Host

variable (m : (ℓ : Loc nD τ sig) → Buf (Elt Ideal) ℓ) (c : Dev nD)

/-- The grid has four points. -/
theorem four (t : Fin cfg0.N) : t.val = 0 ∨ t.val = 1 ∨ t.val = 2 ∨ t.val = 3 := by
  have h := t.isLt
  have e : cfg0.N = 4 := N_0
  omega

/-- The position of row `j` of block `k` at point `t`. -/
def pos (t : Fin cfg0.N) (k : Fin 8) (j : Fin 2048) : Fin 65536 :=
  ⟨(8 * t.val + k.val) * 2048 + j.val, by have := four t; omega⟩

theorem feat_0 (t : Fin cfg0.N) (j : Fin 2048) (h : Fin 128) : (iblk m c 0 t : Vec Ideal S2048x128 .f32) (ix2 j h) = A0 m c (ix2 (pos t 0 j) h) := by
  have hi : win0_0.index t 0 = 8 * t.val + 0 ∧ win0_0.index t 1 = 0 := by
    rcases fin_N0 t with rfl | rfl | rfl | rfl <;> decide +kernel
  unfold iblk
  rw [View.read_apply]
  refine Eq.trans ?_ (congrFun (V_main_arg0 m c) _)
  show V m c main_arg0 _ = V m c main_arg0 _
  congr 1
  funext a
  apply Fin.ext
  match a with
  | ⟨0, _⟩ => show win0_0.index t 0 * 2048 + 1 * j.val = (8 * t.val + 0) * 2048 + j.val; rw [hi.1]; omega
  | ⟨1, _⟩ => show win0_0.index t 1 * 128 + 1 * h.val = h.val; rw [hi.2]; omega

theorem feat_1 (t : Fin cfg0.N) (j : Fin 2048) (h : Fin 128) : (iblk m c 1 t : Vec Ideal S2048x128 .f32) (ix2 j h) = A0 m c (ix2 (pos t 1 j) h) := by
  have hi : win0_1.index t 0 = 8 * t.val + 1 ∧ win0_1.index t 1 = 0 := by
    rcases fin_N0 t with rfl | rfl | rfl | rfl <;> decide +kernel
  unfold iblk
  rw [View.read_apply]
  refine Eq.trans ?_ (congrFun (V_main_arg0 m c) _)
  show V m c main_arg0 _ = V m c main_arg0 _
  congr 1
  funext a
  apply Fin.ext
  match a with
  | ⟨0, _⟩ => show win0_1.index t 0 * 2048 + 1 * j.val = (8 * t.val + 1) * 2048 + j.val; rw [hi.1]; omega
  | ⟨1, _⟩ => show win0_1.index t 1 * 128 + 1 * h.val = h.val; rw [hi.2]; omega

theorem feat_2 (t : Fin cfg0.N) (j : Fin 2048) (h : Fin 128) : (iblk m c 2 t : Vec Ideal S2048x128 .f32) (ix2 j h) = A0 m c (ix2 (pos t 2 j) h) := by
  have hi : win0_2.index t 0 = 8 * t.val + 2 ∧ win0_2.index t 1 = 0 := by
    rcases fin_N0 t with rfl | rfl | rfl | rfl <;> decide +kernel
  unfold iblk
  rw [View.read_apply]
  refine Eq.trans ?_ (congrFun (V_main_arg0 m c) _)
  show V m c main_arg0 _ = V m c main_arg0 _
  congr 1
  funext a
  apply Fin.ext
  match a with
  | ⟨0, _⟩ => show win0_2.index t 0 * 2048 + 1 * j.val = (8 * t.val + 2) * 2048 + j.val; rw [hi.1]; omega
  | ⟨1, _⟩ => show win0_2.index t 1 * 128 + 1 * h.val = h.val; rw [hi.2]; omega

theorem feat_3 (t : Fin cfg0.N) (j : Fin 2048) (h : Fin 128) : (iblk m c 3 t : Vec Ideal S2048x128 .f32) (ix2 j h) = A0 m c (ix2 (pos t 3 j) h) := by
  have hi : win0_3.index t 0 = 8 * t.val + 3 ∧ win0_3.index t 1 = 0 := by
    rcases fin_N0 t with rfl | rfl | rfl | rfl <;> decide +kernel
  unfold iblk
  rw [View.read_apply]
  refine Eq.trans ?_ (congrFun (V_main_arg0 m c) _)
  show V m c main_arg0 _ = V m c main_arg0 _
  congr 1
  funext a
  apply Fin.ext
  match a with
  | ⟨0, _⟩ => show win0_3.index t 0 * 2048 + 1 * j.val = (8 * t.val + 3) * 2048 + j.val; rw [hi.1]; omega
  | ⟨1, _⟩ => show win0_3.index t 1 * 128 + 1 * h.val = h.val; rw [hi.2]; omega

theorem feat_4 (t : Fin cfg0.N) (j : Fin 2048) (h : Fin 128) : (iblk m c 4 t : Vec Ideal S2048x128 .f32) (ix2 j h) = A0 m c (ix2 (pos t 4 j) h) := by
  have hi : win0_4.index t 0 = 8 * t.val + 4 ∧ win0_4.index t 1 = 0 := by
    rcases fin_N0 t with rfl | rfl | rfl | rfl <;> decide +kernel
  unfold iblk
  rw [View.read_apply]
  refine Eq.trans ?_ (congrFun (V_main_arg0 m c) _)
  show V m c main_arg0 _ = V m c main_arg0 _
  congr 1
  funext a
  apply Fin.ext
  match a with
  | ⟨0, _⟩ => show win0_4.index t 0 * 2048 + 1 * j.val = (8 * t.val + 4) * 2048 + j.val; rw [hi.1]; omega
  | ⟨1, _⟩ => show win0_4.index t 1 * 128 + 1 * h.val = h.val; rw [hi.2]; omega

theorem feat_5 (t : Fin cfg0.N) (j : Fin 2048) (h : Fin 128) : (iblk m c 5 t : Vec Ideal S2048x128 .f32) (ix2 j h) = A0 m c (ix2 (pos t 5 j) h) := by
  have hi : win0_5.index t 0 = 8 * t.val + 5 ∧ win0_5.index t 1 = 0 := by
    rcases fin_N0 t with rfl | rfl | rfl | rfl <;> decide +kernel
  unfold iblk
  rw [View.read_apply]
  refine Eq.trans ?_ (congrFun (V_main_arg0 m c) _)
  show V m c main_arg0 _ = V m c main_arg0 _
  congr 1
  funext a
  apply Fin.ext
  match a with
  | ⟨0, _⟩ => show win0_5.index t 0 * 2048 + 1 * j.val = (8 * t.val + 5) * 2048 + j.val; rw [hi.1]; omega
  | ⟨1, _⟩ => show win0_5.index t 1 * 128 + 1 * h.val = h.val; rw [hi.2]; omega

theorem feat_6 (t : Fin cfg0.N) (j : Fin 2048) (h : Fin 128) : (iblk m c 6 t : Vec Ideal S2048x128 .f32) (ix2 j h) = A0 m c (ix2 (pos t 6 j) h) := by
  have hi : win0_6.index t 0 = 8 * t.val + 6 ∧ win0_6.index t 1 = 0 := by
    rcases fin_N0 t with rfl | rfl | rfl | rfl <;> decide +kernel
  unfold iblk
  rw [View.read_apply]
  refine Eq.trans ?_ (congrFun (V_main_arg0 m c) _)
  show V m c main_arg0 _ = V m c main_arg0 _
  congr 1
  funext a
  apply Fin.ext
  match a with
  | ⟨0, _⟩ => show win0_6.index t 0 * 2048 + 1 * j.val = (8 * t.val + 6) * 2048 + j.val; rw [hi.1]; omega
  | ⟨1, _⟩ => show win0_6.index t 1 * 128 + 1 * h.val = h.val; rw [hi.2]; omega

theorem feat_7 (t : Fin cfg0.N) (j : Fin 2048) (h : Fin 128) : (iblk m c 7 t : Vec Ideal S2048x128 .f32) (ix2 j h) = A0 m c (ix2 (pos t 7 j) h) := by
  have hi : win0_7.index t 0 = 8 * t.val + 7 ∧ win0_7.index t 1 = 0 := by
    rcases fin_N0 t with rfl | rfl | rfl | rfl <;> decide +kernel
  unfold iblk
  rw [View.read_apply]
  refine Eq.trans ?_ (congrFun (V_main_arg0 m c) _)
  show V m c main_arg0 _ = V m c main_arg0 _
  congr 1
  funext a
  apply Fin.ext
  match a with
  | ⟨0, _⟩ => show win0_7.index t 0 * 2048 + 1 * j.val = (8 * t.val + 7) * 2048 + j.val; rw [hi.1]; omega
  | ⟨1, _⟩ => show win0_7.index t 1 * 128 + 1 * h.val = h.val; rw [hi.2]; omega

theorem actn_0 (t : Fin cfg0.N) (j : Fin 2048) : (iblk m c 8 t : Vec Ideal S1x1x2048 .i32) (ix3 0 0 j) = A11 m c (ix1 (pos t 0 j)) := by
  have hi : win0_8.index t 0 = 8 * t.val + 0 ∧ win0_8.index t 1 = 0 ∧ win0_8.index t 2 = 0 := by
    rcases fin_N0 t with rfl | rfl | rfl | rfl <;> decide +kernel
  refine Eq.trans ?_ (act_at m c ⟨8 * t.val + 0, by have := four t; omega⟩ j)
  unfold iblk
  rw [View.read_apply]
  show V m c main_v13 _ = V m c main_v13 _
  congr 1
  funext a
  apply Fin.ext
  match a with
  | ⟨0, _⟩ => show win0_8.index t 0 * 1 + 1 * 0 = 8 * t.val + 0; rw [hi.1]; omega
  | ⟨1, _⟩ => show win0_8.index t 1 * 1 + 1 * 0 = 0; rw [hi.2.1]
  | ⟨2, _⟩ => show win0_8.index t 2 * 2048 + 1 * j.val = j.val; rw [hi.2.2]; omega

theorem actn_1 (t : Fin cfg0.N) (j : Fin 2048) : (iblk m c 9 t : Vec Ideal S1x1x2048 .i32) (ix3 0 0 j) = A11 m c (ix1 (pos t 1 j)) := by
  have hi : win0_9.index t 0 = 8 * t.val + 1 ∧ win0_9.index t 1 = 0 ∧ win0_9.index t 2 = 0 := by
    rcases fin_N0 t with rfl | rfl | rfl | rfl <;> decide +kernel
  refine Eq.trans ?_ (act_at m c ⟨8 * t.val + 1, by have := four t; omega⟩ j)
  unfold iblk
  rw [View.read_apply]
  show V m c main_v13 _ = V m c main_v13 _
  congr 1
  funext a
  apply Fin.ext
  match a with
  | ⟨0, _⟩ => show win0_9.index t 0 * 1 + 1 * 0 = 8 * t.val + 1; rw [hi.1]; omega
  | ⟨1, _⟩ => show win0_9.index t 1 * 1 + 1 * 0 = 0; rw [hi.2.1]
  | ⟨2, _⟩ => show win0_9.index t 2 * 2048 + 1 * j.val = j.val; rw [hi.2.2]; omega

theorem actn_2 (t : Fin cfg0.N) (j : Fin 2048) : (iblk m c 10 t : Vec Ideal S1x1x2048 .i32) (ix3 0 0 j) = A11 m c (ix1 (pos t 2 j)) := by
  have hi : win0_10.index t 0 = 8 * t.val + 2 ∧ win0_10.index t 1 = 0 ∧ win0_10.index t 2 = 0 := by
    rcases fin_N0 t with rfl | rfl | rfl | rfl <;> decide +kernel
  refine Eq.trans ?_ (act_at m c ⟨8 * t.val + 2, by have := four t; omega⟩ j)
  unfold iblk
  rw [View.read_apply]
  show V m c main_v13 _ = V m c main_v13 _
  congr 1
  funext a
  apply Fin.ext
  match a with
  | ⟨0, _⟩ => show win0_10.index t 0 * 1 + 1 * 0 = 8 * t.val + 2; rw [hi.1]; omega
  | ⟨1, _⟩ => show win0_10.index t 1 * 1 + 1 * 0 = 0; rw [hi.2.1]
  | ⟨2, _⟩ => show win0_10.index t 2 * 2048 + 1 * j.val = j.val; rw [hi.2.2]; omega

theorem actn_3 (t : Fin cfg0.N) (j : Fin 2048) : (iblk m c 11 t : Vec Ideal S1x1x2048 .i32) (ix3 0 0 j) = A11 m c (ix1 (pos t 3 j)) := by
  have hi : win0_11.index t 0 = 8 * t.val + 3 ∧ win0_11.index t 1 = 0 ∧ win0_11.index t 2 = 0 := by
    rcases fin_N0 t with rfl | rfl | rfl | rfl <;> decide +kernel
  refine Eq.trans ?_ (act_at m c ⟨8 * t.val + 3, by have := four t; omega⟩ j)
  unfold iblk
  rw [View.read_apply]
  show V m c main_v13 _ = V m c main_v13 _
  congr 1
  funext a
  apply Fin.ext
  match a with
  | ⟨0, _⟩ => show win0_11.index t 0 * 1 + 1 * 0 = 8 * t.val + 3; rw [hi.1]; omega
  | ⟨1, _⟩ => show win0_11.index t 1 * 1 + 1 * 0 = 0; rw [hi.2.1]
  | ⟨2, _⟩ => show win0_11.index t 2 * 2048 + 1 * j.val = j.val; rw [hi.2.2]; omega

theorem actn_4 (t : Fin cfg0.N) (j : Fin 2048) : (iblk m c 12 t : Vec Ideal S1x1x2048 .i32) (ix3 0 0 j) = A11 m c (ix1 (pos t 4 j)) := by
  have hi : win0_12.index t 0 = 8 * t.val + 4 ∧ win0_12.index t 1 = 0 ∧ win0_12.index t 2 = 0 := by
    rcases fin_N0 t with rfl | rfl | rfl | rfl <;> decide +kernel
  refine Eq.trans ?_ (act_at m c ⟨8 * t.val + 4, by have := four t; omega⟩ j)
  unfold iblk
  rw [View.read_apply]
  show V m c main_v13 _ = V m c main_v13 _
  congr 1
  funext a
  apply Fin.ext
  match a with
  | ⟨0, _⟩ => show win0_12.index t 0 * 1 + 1 * 0 = 8 * t.val + 4; rw [hi.1]; omega
  | ⟨1, _⟩ => show win0_12.index t 1 * 1 + 1 * 0 = 0; rw [hi.2.1]
  | ⟨2, _⟩ => show win0_12.index t 2 * 2048 + 1 * j.val = j.val; rw [hi.2.2]; omega

theorem actn_5 (t : Fin cfg0.N) (j : Fin 2048) : (iblk m c 13 t : Vec Ideal S1x1x2048 .i32) (ix3 0 0 j) = A11 m c (ix1 (pos t 5 j)) := by
  have hi : win0_13.index t 0 = 8 * t.val + 5 ∧ win0_13.index t 1 = 0 ∧ win0_13.index t 2 = 0 := by
    rcases fin_N0 t with rfl | rfl | rfl | rfl <;> decide +kernel
  refine Eq.trans ?_ (act_at m c ⟨8 * t.val + 5, by have := four t; omega⟩ j)
  unfold iblk
  rw [View.read_apply]
  show V m c main_v13 _ = V m c main_v13 _
  congr 1
  funext a
  apply Fin.ext
  match a with
  | ⟨0, _⟩ => show win0_13.index t 0 * 1 + 1 * 0 = 8 * t.val + 5; rw [hi.1]; omega
  | ⟨1, _⟩ => show win0_13.index t 1 * 1 + 1 * 0 = 0; rw [hi.2.1]
  | ⟨2, _⟩ => show win0_13.index t 2 * 2048 + 1 * j.val = j.val; rw [hi.2.2]; omega

theorem actn_6 (t : Fin cfg0.N) (j : Fin 2048) : (iblk m c 14 t : Vec Ideal S1x1x2048 .i32) (ix3 0 0 j) = A11 m c (ix1 (pos t 6 j)) := by
  have hi : win0_14.index t 0 = 8 * t.val + 6 ∧ win0_14.index t 1 = 0 ∧ win0_14.index t 2 = 0 := by
    rcases fin_N0 t with rfl | rfl | rfl | rfl <;> decide +kernel
  refine Eq.trans ?_ (act_at m c ⟨8 * t.val + 6, by have := four t; omega⟩ j)
  unfold iblk
  rw [View.read_apply]
  show V m c main_v13 _ = V m c main_v13 _
  congr 1
  funext a
  apply Fin.ext
  match a with
  | ⟨0, _⟩ => show win0_14.index t 0 * 1 + 1 * 0 = 8 * t.val + 6; rw [hi.1]; omega
  | ⟨1, _⟩ => show win0_14.index t 1 * 1 + 1 * 0 = 0; rw [hi.2.1]
  | ⟨2, _⟩ => show win0_14.index t 2 * 2048 + 1 * j.val = j.val; rw [hi.2.2]; omega

theorem actn_7 (t : Fin cfg0.N) (j : Fin 2048) : (iblk m c 15 t : Vec Ideal S1x1x2048 .i32) (ix3 0 0 j) = A11 m c (ix1 (pos t 7 j)) := by
  have hi : win0_15.index t 0 = 8 * t.val + 7 ∧ win0_15.index t 1 = 0 ∧ win0_15.index t 2 = 0 := by
    rcases fin_N0 t with rfl | rfl | rfl | rfl <;> decide +kernel
  refine Eq.trans ?_ (act_at m c ⟨8 * t.val + 7, by have := four t; omega⟩ j)
  unfold iblk
  rw [View.read_apply]
  show V m c main_v13 _ = V m c main_v13 _
  congr 1
  funext a
  apply Fin.ext
  match a with
  | ⟨0, _⟩ => show win0_15.index t 0 * 1 + 1 * 0 = 8 * t.val + 7; rw [hi.1]; omega
  | ⟨1, _⟩ => show win0_15.index t 1 * 1 + 1 * 0 = 0; rw [hi.2.1]
  | ⟨2, _⟩ => show win0_15.index t 2 * 2048 + 1 * j.val = j.val; rw [hi.2.2]; omega

theorem whole_16 (t : Fin cfg0.N) (p : Fin 24) (q : Fin 128) : (iblk m c 16 t : Vec Ideal S24x128 .f32) (ix2 p q) = H5 m c (ix2 p q) := by
  have hi : win0_16.index t 0 = 0 ∧ win0_16.index t 1 = 0 := by
    rcases fin_N0 t with rfl | rfl | rfl | rfl <;> decide +kernel
  unfold iblk
  rw [View.read_apply]
  show V m c main_v5 _ = V m c main_v5 _
  congr 1
  funext a
  apply Fin.ext
  match a with
  | ⟨0, _⟩ => show win0_16.index t 0 * 24 + 1 * p.val = p.val; rw [hi.1]; omega
  | ⟨1, _⟩ => show win0_16.index t 1 * 128 + 1 * q.val = q.val; rw [hi.2]; omega

theorem whole_17 (t : Fin cfg0.N) (p : Fin 24) (q : Fin 1) : (iblk m c 17 t : Vec Ideal S24x1 .f32) (ix2 p q) = H12 m c (ix2 p q) := by
  have hi : win0_17.index t 0 = 0 ∧ win0_17.index t 1 = 0 := by
    rcases fin_N0 t with rfl | rfl | rfl | rfl <;> decide +kernel
  unfold iblk
  rw [View.read_apply]
  show V m c main_v12 _ = V m c main_v12 _
  congr 1
  funext a
  apply Fin.ext
  match a with
  | ⟨0, _⟩ => show win0_17.index t 0 * 24 + 1 * p.val = p.val; rw [hi.1]; omega
  | ⟨1, _⟩ => show win0_17.index t 1 * 1 + 1 * q.val = q.val; rw [hi.2]; omega

theorem whole_18 (t : Fin cfg0.N) (p : Fin 128) (q : Fin 128) : (iblk m c 18 t : Vec Ideal S128x128 .f32) (ix2 p q) = A3 m c (ix2 p q) := by
  have hi : win0_18.index t 0 = 0 ∧ win0_18.index t 1 = 0 := by
    rcases fin_N0 t with rfl | rfl | rfl | rfl <;> decide +kernel
  unfold iblk
  rw [View.read_apply]
  refine Eq.trans ?_ (congrFun (V_main_arg3 m c) _)
  show V m c main_arg3 _ = V m c main_arg3 _
  congr 1
  funext a
  apply Fin.ext
  match a with
  | ⟨0, _⟩ => show win0_18.index t 0 * 128 + 1 * p.val = p.val; rw [hi.1]; omega
  | ⟨1, _⟩ => show win0_18.index t 1 * 128 + 1 * q.val = q.val; rw [hi.2]; omega

theorem whole_19 (t : Fin cfg0.N) (p : Fin 1) (q : Fin 128) : (iblk m c 19 t : Vec Ideal S1x128 .f32) (ix2 p q) = H14 m c (ix2 p q) := by
  have hi : win0_19.index t 0 = 0 ∧ win0_19.index t 1 = 0 := by
    rcases fin_N0 t with rfl | rfl | rfl | rfl <;> decide +kernel
  unfold iblk
  rw [View.read_apply]
  show V m c main_v14 _ = V m c main_v14 _
  congr 1
  funext a
  apply Fin.ext
  match a with
  | ⟨0, _⟩ => show win0_19.index t 0 * 1 + 1 * p.val = p.val; rw [hi.1]; omega
  | ⟨1, _⟩ => show win0_19.index t 1 * 128 + 1 * q.val = q.val; rw [hi.2]; omega

theorem whole_20 (t : Fin cfg0.N) (p : Fin 128) (q : Fin 64) : (iblk m c 20 t : Vec Ideal S128x64 .f32) (ix2 p q) = A5 m c (ix2 p q) := by
  have hi : win0_20.index t 0 = 0 ∧ win0_20.index t 1 = 0 := by
    rcases fin_N0 t with rfl | rfl | rfl | rfl <;> decide +kernel
  unfold iblk
  rw [View.read_apply]
  refine Eq.trans ?_ (congrFun (V_main_arg5 m c) _)
  show V m c main_arg5 _ = V m c main_arg5 _
  congr 1
  funext a
  apply Fin.ext
  match a with
  | ⟨0, _⟩ => show win0_20.index t 0 * 128 + 1 * p.val = p.val; rw [hi.1]; omega
  | ⟨1, _⟩ => show win0_20.index t 1 * 64 + 1 * q.val = q.val; rw [hi.2]; omega

theorem whole_21 (t : Fin cfg0.N) (p : Fin 1) (q : Fin 64) : (iblk m c 21 t : Vec Ideal S1x64 .f32) (ix2 p q) = H15 m c (ix2 p q) := by
  have hi : win0_21.index t 0 = 0 ∧ win0_21.index t 1 = 0 := by
    rcases fin_N0 t with rfl | rfl | rfl | rfl <;> decide +kernel
  unfold iblk
  rw [View.read_apply]
  show V m c main_v15 _ = V m c main_v15 _
  congr 1
  funext a
  apply Fin.ext
  match a with
  | ⟨0, _⟩ => show win0_21.index t 0 * 1 + 1 * p.val = p.val; rw [hi.1]; omega
  | ⟨1, _⟩ => show win0_21.index t 1 * 64 + 1 * q.val = q.val; rw [hi.2]; omega

theorem whole_22 (t : Fin cfg0.N) (p : Fin 64) (q : Fin 1) : (iblk m c 22 t : Vec Ideal S64x1 .f32) (ix2 p q) = A7 m c (ix2 p q) := by
  have hi : win0_22.index t 0 = 0 ∧ win0_22.index t 1 = 0 := by
    rcases fin_N0 t with rfl | rfl | rfl | rfl <;> decide +kernel
  unfold iblk
  rw [View.read_apply]
  refine Eq.trans ?_ (congrFun (V_main_arg7 m c) _)
  show V m c main_arg7 _ = V m c main_arg7 _
  congr 1
  funext a
  apply Fin.ext
  match a with
  | ⟨0, _⟩ => show win0_22.index t 0 * 64 + 1 * p.val = p.val; rw [hi.1]; omega
  | ⟨1, _⟩ => show win0_22.index t 1 * 1 + 1 * q.val = q.val; rw [hi.2]; omega

theorem whole_23 (t : Fin cfg0.N) (p : Fin 1) (q : Fin 1) : (iblk m c 23 t : Vec Ideal S1x1 .f32) (ix2 p q) = H16 m c (ix2 p q) := by
  have hi : win0_23.index t 0 = 0 ∧ win0_23.index t 1 = 0 := by
    rcases fin_N0 t with rfl | rfl | rfl | rfl <;> decide +kernel
  unfold iblk
  rw [View.read_apply]
  show V m c main_v16 _ = V m c main_v16 _
  congr 1
  funext a
  apply Fin.ext
  match a with
  | ⟨0, _⟩ => show win0_23.index t 0 * 1 + 1 * p.val = p.val; rw [hi.1]; omega
  | ⟨1, _⟩ => show win0_23.index t 1 * 1 + 1 * q.val = q.val; rw [hi.2]; omega

/-- Row `j` of the `k`-th feature block. -/
theorem feat_at (t : Fin cfg0.N) (k : Fin 8) (j : Fin 2048) (h : Fin 128) : Points.feat m c t k (ix2 j h) = A0 m c (ix2 (pos t k j) h) := by
  fin_cases k
  · exact feat_0 m c t j h
  · exact feat_1 m c t j h
  · exact feat_2 m c t j h
  · exact feat_3 m c t j h
  · exact feat_4 m c t j h
  · exact feat_5 m c t j h
  · exact feat_6 m c t j h
  · exact feat_7 m c t j h

/-- Row `j` of the `k`-th action block. -/
theorem actn_at (t : Fin cfg0.N) (k : Fin 8) (j : Fin 2048) : Points.actn m c t k (ix3 0 0 j) = A11 m c (ix1 (pos t k j)) := by
  fin_cases k
  · exact actn_0 m c t j
  · exact actn_1 m c t j
  · exact actn_2 m c t j
  · exact actn_3 m c t j
  · exact actn_4 m c t j
  · exact actn_5 m c t j
  · exact actn_6 m c t j
  · exact actn_7 m c t j

end Cert.KernelIdeal.Blocks

end
-- ==== Proof.Rows.lean ====
/- The mathematics of one position, free of both programs: over real scores, the log-probability of the action and the
   entropy computed from the plain exponentials (24 table rows, the last three at −∞) are the ones computed from the
   exponentials shifted by a common amount. Hand-written, untrusted. -/
module

public import Idealize.ShloMosaic.PureOps.Ideal
public import proofs.«01_k».proof.Proof.Block

@[expose] public section

noncomputable section

namespace Cert.Rows

open Idealize.ShloMosaic

/-- A finite sum of reals, as a sum of extended reals. -/
theorem coe_sum {ι : Type} (t : Finset ι) (f : ι → ℝ) : ((∑ i ∈ t, f i : ℝ) : EReal) = ∑ i ∈ t, (f i : EReal) := by
  classical
  induction t using Finset.induction_on with
  | empty => simp
  | insert a t h ih => rw [Finset.sum_insert h, Finset.sum_insert h, EReal.coe_add, ih]

variable (s : Fin 21 → ℝ)

/-- The partition function of the scores. -/
def Z : ℝ := ∑ v, Real.exp (s v)

/-- The log-probability of entry `a`. -/
def logP (a : Fin 21) : ℝ := s a - Real.log (Z s)

/-- The entropy of the softmax of the scores. -/
def ent : ℝ := Real.log (Z s) - (∑ v, Real.exp (s v) * s v) / Z s

theorem Z_pos : 0 < Z s := Finset.sum_pos (fun v _ => Real.exp_pos _) ⟨0, Finset.mem_univ _⟩

/-! ## The kernel's side: 24 rows, the last three at −∞ -/

variable {s} {σ : Fin 24 → EReal}

/-- A sum over the 24 table rows whose padding rows give 0. -/
theorem sum_rows (f : Fin 24 → EReal) (g : Fin 21 → ℝ) (hf : ∀ v : Fin 21, f (v.castLE (by decide)) = (g v : EReal))
    (h0 : ∀ v : Fin 24, 21 ≤ v.val → f v = 0) : ∑ v, f v = ((∑ v, g v : ℝ) : EReal) := by
  rw [coe_sum]
  refine (Fin.sum_univ_add (a := 21) (b := 3) f).trans ?_
  have h1 : ∑ i : Fin 21, f (Fin.castAdd 3 i) = ∑ v, (g v : EReal) := Finset.sum_congr rfl fun v _ => hf v
  have h2 : ∑ i : Fin 3, f (Fin.natAdd 21 i) = 0 := Finset.sum_eq_zero fun i _ => h0 _ (by simp)
  rw [h1, h2, add_zero]

/-- What it means that the 24 rows hold the 21 real scores and −∞ below them. -/
structure Holds (σ : Fin 24 → EReal) (s : Fin 21 → ℝ) : Prop where
  real : ∀ v : Fin 21, σ (v.castLE (by decide)) = (s v : EReal)
  pad : ∀ v : Fin 24, 21 ≤ v.val → σ v = ⊥

theorem part_eq (h : Holds σ s) : ∑ v, Ideal.exp (σ v) = ((Z s : ℝ) : EReal) :=
  sum_rows _ _ (fun v => by rw [h.real]; rfl) fun v hv => by rw [h.pad v hv]; rfl

theorem mean_eq (h : Holds σ s) : ∑ v, Ideal.exp (σ v) * σ v = ((∑ v, Real.exp (s v) * s v : ℝ) : EReal) :=
  sum_rows _ _ (fun v => by rw [h.real, Ideal.exp_coe, EReal.coe_mul]) fun v hv => by
    rw [h.pad v hv, Ideal.exp_bot, zero_mul]

theorem log_Z : Ideal.log ((Z s : ℝ) : EReal) = ((Real.log (Z s) : ℝ) : EReal) := by
  rw [Ideal.log_coe, if_neg (not_le.mpr (Z_pos s))]

/-- The kernel's log-probability of the action, of one position. -/
theorem kernel_logP (h : Holds σ s) (w : BitVec 32) (a : Fin 21) (ha : w = BitVec.ofNat 32 a.val) :
    (∑ v : Fin 24, if BitVec.ofNat 32 v.val = w then σ v else 0) - Ideal.log (∑ v, Ideal.exp (σ v)) = ((logP s a : ℝ) : EReal) := by
  rw [part_eq h, log_Z, Finset.sum_eq_single (a.castLE (by decide) : Fin 24), if_pos (by rw [ha]; rfl), h.real, logP, EReal.coe_sub]
  · intro v _ hv
    rw [if_neg]
    intro hw
    apply hv
    have := congrArg BitVec.toNat (hw.trans ha)
    simp only [BitVec.toNat_ofNat] at this
    have h1 := v.isLt
    have h2 := a.isLt
    exact Fin.ext (by simp only [Fin.val_castLE]; omega)
  · exact fun hn => absurd (Finset.mem_univ _) hn

/-- The kernel's entropy of one position. -/
theorem kernel_ent (h : Holds σ s) :
    Ideal.log (∑ v, Ideal.exp (σ v)) - Ideal.div (∑ v, Ideal.exp (σ v) * σ v) (∑ v, Ideal.exp (σ v)) = ((ent s : ℝ) : EReal) := by
  rw [part_eq h, mean_eq h, log_Z, Ideal.div_coe (Z_pos s).ne', ent, EReal.coe_sub, ← EReal.coe_mul, mul_one_div]

/-! ## The reference's side: exponentials shifted by a real -/

variable (s) (m : ℝ)

theorem shifted_sum : ∑ v, Ideal.exp ((s v : EReal) - (m : EReal)) = ((Z s * Real.exp (-m) : ℝ) : EReal) := by
  rw [Z, Finset.sum_mul, coe_sum]
  refine Finset.sum_congr rfl fun v _ => ?_
  rw [← EReal.coe_sub, Ideal.exp_coe, ← Real.exp_add, sub_eq_add_neg]

/-- The reference's log-probability of entry `v`. -/
theorem ref_logP (v : Fin 21) :
    ((s v : EReal) - (m : EReal)) - Ideal.log (∑ v, Ideal.exp ((s v : EReal) - (m : EReal))) = ((logP s v : ℝ) : EReal) := by
  have hp : 0 < Z s * Real.exp (-m) := mul_pos (Z_pos s) (Real.exp_pos _)
  rw [shifted_sum, Ideal.log_coe, if_neg (not_le.mpr hp), Real.log_mul (Z_pos s).ne' (Real.exp_pos _).ne', Real.log_exp,
    ← EReal.coe_sub, ← EReal.coe_sub, logP]
  congr 1; ring

/-- The reference's probability of entry `v`. -/
theorem ref_prob (v : Fin 21) :
    Ideal.div (Ideal.exp ((s v : EReal) - (m : EReal))) (∑ v, Ideal.exp ((s v : EReal) - (m : EReal)))
      = ((Real.exp (s v) / Z s : ℝ) : EReal) := by
  have hp : Z s * Real.exp (-m) ≠ 0 := (mul_pos (Z_pos s) (Real.exp_pos _)).ne'
  rw [shifted_sum, Ideal.div_coe hp, ← EReal.coe_sub, Ideal.exp_coe, ← EReal.coe_mul, sub_eq_add_neg, Real.exp_add]
  congr 1
  field_simp

/-- The reference's entropy of one position. -/
theorem ref_ent :
    -(0 + ∑ v, ((Real.exp (s v) / Z s : ℝ) : EReal) * ((logP s v : ℝ) : EReal)) = ((ent s : ℝ) : EReal) := by
  have hz := (Z_pos s).ne'
  simp_rw [← EReal.coe_mul]
  rw [zero_add, ← coe_sum, ← EReal.coe_neg]
  congr 1
  have h1 : ∑ v, Real.exp (s v) / Z s * logP s v
      = (∑ v, Real.exp (s v) * s v) / Z s - (∑ v, Real.exp (s v)) / Z s * Real.log (Z s) := by
    rw [Finset.sum_div, Finset.sum_div, Finset.sum_mul, ← Finset.sum_sub_distrib]
    refine Finset.sum_congr rfl fun v _ => ?_
    rw [logP]; ring
  rw [h1, ent, show (∑ v, Real.exp (s v)) = Z s from rfl, div_self hz]
  ring

/-- The maximum over reals, from −∞, is a real. -/
theorem sup_real {ι : Type} (t : Finset ι) (ht : t.Nonempty) (f : ι → ℝ) : ∃ m : ℝ, t.sup (fun i => (f i : EReal)) = (m : EReal) := by
  obtain ⟨i, _, hi⟩ := Finset.exists_mem_eq_sup t ht (fun i => (f i : EReal))
  exact ⟨f i, hi⟩

end Cert.Rows

end
-- ==== Proof.RefScore.lean ====
module

public import proofs.«01_k».proof.Proof.Gen.ReferenceIdeal.Read
public import proofs.«01_k».proof.Proof.Rows
public import proofs.«01_k».proof.Proof.Consts

@[expose] public section

noncomputable section

/-! The reference's scores, their log-softmax and their entropy, one position at a time. The hypothesis throughout is
that the features, the output matrix and the output bias are real numbers. -/

namespace Cert.RefScore

open Cert.ReferenceIdeal Cert.ReferenceIdeal.Gen Cert.ReferenceIdeal.Read Idealize.ShloMosaic

/-- The real score of class `v` at position `n`: (features · matrix + bias) times ten. -/
def sc (x : Fin 65536 → Fin 128 → ℝ) (W : Fin 128 → Fin 21 → ℝ) (b : Fin 21 → ℝ) (n : Fin 65536) (v : Fin 21) : ℝ :=
  ((∑ h, x n h * W h v) + b v) * 10

variable {x0 : (⟨S65536x128, .f32⟩ : BufTy).Contents (Elt Ideal)} {x1 : (⟨S128x21, .f32⟩ : BufTy).Contents (Elt Ideal)}
  {x2 : (⟨S21, .f32⟩ : BufTy).Contents (Elt Ideal)}
  {x : Fin 65536 → Fin 128 → ℝ} {W : Fin 128 → Fin 21 → ℝ} {b : Fin 21 → ℝ}

/-- The three arrays hold these real numbers. -/
structure Reals (x0 : (⟨S65536x128, .f32⟩ : BufTy).Contents (Elt Ideal)) (x1 : (⟨S128x21, .f32⟩ : BufTy).Contents (Elt Ideal))
    (x2 : (⟨S21, .f32⟩ : BufTy).Contents (Elt Ideal)) (x : Fin 65536 → Fin 128 → ℝ) (W : Fin 128 → Fin 21 → ℝ) (b : Fin 21 → ℝ) : Prop where
  hx : ∀ n h, x0 (ix2 n h) = ((x n h : ℝ) : EReal)
  hW : ∀ h v, x1 (ix2 h v) = ((W h v : ℝ) : EReal)
  hb : ∀ v, x2 (ix1 v) = ((b v : ℝ) : EReal)

/-- The reference's temperature: `1 / 10`. -/
theorem temp_at (i : S65536x21.Idx) : val_main_v51 (F := Ideal) i = ((1 / 10 : ℝ) : EReal) := by
  rw [val_main_v51_apply, val_main_v50_apply, val_main_cst_10_apply, val_main_cst_11_apply, Ideal.hostDivf_def, Ideal.ofBits_def,
    Ideal.ofBits_def, Consts.one, Consts.ten, Ideal.div_coe (by norm_num), ← EReal.coe_mul, one_mul]

/-- The reference's scores are the real scores. -/
theorem score_at (H : Reals x0 x1 x2 x W b) (n : Fin 65536) (v : Fin 21) :
    val_main_v52 (F := Ideal) x0 x1 x2 (ix2 n v) = ((sc x W b n v : ℝ) : EReal) := by
  have h46 : val_main_v46 (F := Ideal) x0 x1 (ix2 n v) = ((∑ h, x n h * W h v : ℝ) : EReal) := by
    rw [val_main_v46_apply, Rows.coe_sum]
    refine Finset.sum_congr rfl fun h _ => ?_
    rw [EReal.coe_mul, ← H.hx, ← H.hW]
    congr 1
    · congr 1; funext a; fin_cases a <;> rfl
    · congr 1; funext a; fin_cases a <;> rfl
  have h48 : val_main_v48 (F := Ideal) x2 (ix2 n v) = ((b v : ℝ) : EReal) := by
    rw [val_main_v48_apply, val_main_v47_apply, ← H.hb]
    congr 1; funext a; fin_cases a; rfl
  rw [val_main_v52_apply, val_main_v49_apply, temp_at, h46, h48, Ideal.hostDivf_def, Ideal.addf_def, Ideal.div_coe (by norm_num),
    ← EReal.coe_add, ← EReal.coe_mul, sc]
  norm_num

/-- A maximum over finitely many reals, started at `−∞`, is a real number or (over none) `−∞`. -/
theorem fold_max {ι : Type} (t : Finset ι) (f : ι → EReal) (hf : ∀ i, ∃ r : ℝ, f i = (r : EReal)) :
    (t = ∅ ∧ t.fold (FloatOps.maximumf (F := Ideal) (φ := .f32)) (⊥ : EReal) f = (⊥ : EReal))
      ∨ ∃ m : ℝ, t.fold (FloatOps.maximumf (F := Ideal) (φ := .f32)) (⊥ : EReal) f = (m : EReal) := by
  classical
  induction t using Finset.induction_on with
  | empty => exact Or.inl ⟨rfl, rfl⟩
  | insert a t h ih =>
    right
    obtain ⟨r, hr⟩ := hf a
    rw [Finset.fold_insert h, hr]
    rcases ih with ⟨_, e⟩ | ⟨m, e⟩
    · exact ⟨r, by rw [e, Ideal.maximumf_def]; exact max_eq_left bot_le⟩
    · rw [e, Ideal.maximumf_def]
      rcases le_total r m with h | h
      · exact ⟨m, max_eq_right (EReal.coe_le_coe_iff.mpr h)⟩
      · exact ⟨r, max_eq_left (EReal.coe_le_coe_iff.mpr h)⟩

theorem reduces_classes : S65536x21.Reduces [1] S65536 := by decide

/-- The largest score of a position, started at `−∞`, is a real number. -/
theorem max_at (H : Reals x0 x1 x2 x W b) (c : (⟨S_, .f32⟩ : BufTy).Contents (Elt Ideal)) (hc : c (Shape.Idx.first h_S_) = (⊥ : EReal)) (j : S65536.Idx) :
    ∃ m : ℝ, Host.reduce (FloatOps.maximumf (F := Ideal) (φ := .f32)) (val_main_v52 (F := Ideal) x0 x1 x2) c reducesTo_S65536x21_S65536_d1 h_S_ j = ((m : ℝ) : Ideal .f32) := by
  rw [Host.reduce_eq_fold_single _ _ _ _ reduces_classes]
  rw [hc]
  refine (fold_max _ _ fun k => ?_).resolve_left fun h => absurd h.1 (Finset.univ_nonempty (α := Fin 21)).ne_empty
  obtain ⟨n, v, hi⟩ : ∃ (n : Fin 65536) (v : Fin 21), reduces_classes.lift j k = ix2 n v :=
    ⟨reduces_classes.lift j k 0, reduces_classes.lift j k 1, by funext a; fin_cases a <;> rfl⟩
  exact ⟨_, by rw [Function.comp_apply, hi]; exact score_at H n v⟩

/-- The log-softmax of the reference at a position and class is the real log-probability. -/
theorem logP_at (H : Reals x0 x1 x2 x W b) (n : Fin 65536) (v : Fin 21) :
    val_main_v53 (F := Ideal) x0 x1 x2 (ix2 n v) = ((Rows.logP (sc x W b n) v : ℝ) : EReal) := by
  obtain ⟨m, hm⟩ := max_at H (val_main_call0_cst (F := Ideal)) Consts.negInf (ix1 n)
  have h2 : val_main_call0_v2 (F := Ideal) x0 x1 x2 (ix1 n) = (m : EReal) := by
    rw [val_main_call0_v2_apply, val_main_call0_v1_apply, val_main_call0_cst_0_apply, val_main_call0_v0, hm, Ideal.ofBits_def, Consts.negInf,
      Ideal.maximumf_def]
    exact max_eq_right bot_le
  have h5 : ∀ k, val_main_call0_v5 (F := Ideal) x0 x1 x2 (ix2 n k) = ((sc x W b n k : ℝ) : EReal) - (m : EReal) := fun k => by
    rw [val_main_call0_v5_apply, val_main_call0_v4_apply, val_main_call0_v3_apply, score_at H, Ideal.subf_def,
      show idx_main_call0_v3 (idx_main_call0_v4 (ix2 n k)) = ix1 n from by funext a; fin_cases a; rfl, h2]
  have h7 : val_main_call0_v7 (F := Ideal) x0 x1 x2 (ix1 n) = ∑ k, Ideal.exp (((sc x W b n k : ℝ) : EReal) - (m : EReal)) := by
    rw [val_main_call0_v7_apply, val_main_call0_cst_1_apply, Ideal.ofBits_def, Consts.zero, zero_add]
    refine Finset.sum_congr rfl fun k _ => ?_
    rw [val_main_call0_v6_apply, show idx_main_call0_v7 (ix1 n) k = ix2 n k from by funext a; fin_cases a <;> rfl, h5, Ideal.hostUnary_exp_def]
  rw [val_main_v53_apply, val_main_call0_v10_apply, val_main_call0_v9_apply, val_main_call0_v8_apply, h5, Ideal.subf_def, Ideal.hostUnary_log_def,
    show idx_main_call0_v8 (idx_main_call0_v10 (ix2 n v)) = ix1 n from by funext a; fin_cases a; rfl, h7]
  exact Rows.ref_logP _ m v

/-- The softmax of the reference at a position and class. -/
theorem prob_at (H : Reals x0 x1 x2 x W b) (n : Fin 65536) (v : Fin 21) :
    val_main_v64 (F := Ideal) x0 x1 x2 (ix2 n v) = ((Real.exp (sc x W b n v) / Rows.Z (sc x W b n) : ℝ) : EReal) := by
  obtain ⟨m, hm⟩ := max_at H (val_main_cst_12 (F := Ideal)) Consts.negInf (ix1 n)
  have h2 : val_main_v56 (F := Ideal) x0 x1 x2 (ix1 n) = (m : EReal) := by
    rw [val_main_v56_apply, val_main_v55_apply, val_main_cst_13_apply, val_main_v54, hm, Ideal.ofBits_def, Consts.negInf,
      Ideal.maximumf_def]
    exact max_eq_right bot_le
  have h6 : ∀ k, val_main_v60 (F := Ideal) x0 x1 x2 (ix2 n k) = Ideal.exp (((sc x W b n k : ℝ) : EReal) - (m : EReal)) := fun k => by
    rw [val_main_v60_apply, val_main_v59_apply, val_main_v58_apply, val_main_v57_apply, score_at H, Ideal.subf_def, Ideal.hostUnary_exp_def,
      show idx_main_v57 (idx_main_v58 (ix2 n k)) = ix1 n from by funext a; fin_cases a; rfl, h2]
  have h7 : val_main_v61 (F := Ideal) x0 x1 x2 (ix1 n) = ∑ k, Ideal.exp (((sc x W b n k : ℝ) : EReal) - (m : EReal)) := by
    rw [val_main_v61_apply, val_main_cst_14_apply, Ideal.ofBits_def, Consts.zero, zero_add]
    refine Finset.sum_congr rfl fun k _ => ?_
    rw [show idx_main_v61 (ix1 n) k = ix2 n k from by funext a; fin_cases a <;> rfl, h6]
  rw [val_main_v64_apply, val_main_v63_apply, val_main_v62_apply, h6, Ideal.hostDivf_def,
    show idx_main_v62 (idx_main_v63 (ix2 n v)) = ix1 n from by funext a; fin_cases a; rfl, h7]
  exact Rows.ref_prob _ m v

/-- The entropy of the reference at a position is the real entropy. -/
theorem ent_at (H : Reals x0 x1 x2 x W b) (n : Fin 65536) :
    val_main_v75 (F := Ideal) x0 x1 x2 (ix1 n) = ((Rows.ent (sc x W b n) : ℝ) : EReal) := by
  rw [val_main_v75_apply, val_main_v74_apply, val_main_cst_16_apply, Ideal.hostNegf_def, Ideal.ofBits_def, Consts.zero, ← Rows.ref_ent]
  refine congrArg (fun z : EReal => -(0 + z)) (Finset.sum_congr rfl fun k _ => ?_)
  rw [val_main_v73_apply, show idx_main_v74 (ix1 n) k = ix2 n k from by funext a; fin_cases a <;> rfl, prob_at H, logP_at H, Ideal.mulf_def]

end Cert.RefScore

end
-- ==== Proof.RefTake.lean ====
module

public import proofs.«01_k».proof.Proof.RefScore

@[expose] public section

noncomputable section

/-! The reference's `take_along_axis`: of every position's log-probabilities, the one of its action. The hypothesis is
that every action is one of the 21 classes. -/

namespace Cert.RefTake

open Cert.ReferenceIdeal Cert.ReferenceIdeal.Gen Cert.ReferenceIdeal.Read Idealize.ShloMosaic

variable {x0 : (⟨S65536x128, .f32⟩ : BufTy).Contents (Elt Ideal)} {x1 : (⟨S128x21, .f32⟩ : BufTy).Contents (Elt Ideal)}
  {x2 : (⟨S21, .f32⟩ : BufTy).Contents (Elt Ideal)} {x11 : (⟨S65536, .i32⟩ : BufTy).Contents (Elt Ideal)}
  {x : Fin 65536 → Fin 128 → ℝ} {W : Fin 128 → Fin 21 → ℝ} {b : Fin 21 → ℝ} {act : Fin 65536 → Fin 21}

/-- The gather's dimension numbers. -/
abbrev dims := gather_S65536x21_S65536x1x1_S65536x1_n_1_0_0_1_2_11

/-- A gather along the second axis, with the first as a batch axis, read at a row: the entry of that row at the start
index, clamped to the row. -/
theorem gather_at {α : Type} (y : S65536x21.Idx → α) (idx : IVec S65536x1x1 32) (n : Fin 65536) :
    Host.gather dims y idx (ix2 n 0)
      = y (ix2 n ⟨min (idx (ix3 n 0 0)).toInt.toNat 20, by omega⟩) := by
  unfold Host.gather
  refine congrArg y (funext fun a => Fin.ext ?_)
  show dims.start (ix2 n 0) idx a + dims.batchCoord (ix2 n 0) a + dims.offCoord (ix2 n 0) a = _
  fin_cases a
  · show dims.start (ix2 n 0) idx (0 : Fin 2) + dims.batchCoord (ix2 n 0) (0 : Fin 2) + dims.offCoord (ix2 n 0) (0 : Fin 2) = n.val
    rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    rw [dif_pos (show (0 : Fin 2) ∈ dims.operandBatchingDims from List.mem_singleton.mpr rfl)]
    rfl
  · show dims.start (ix2 n 0) idx (1 : Fin 2) + dims.batchCoord (ix2 n 0) (1 : Fin 2) + dims.offCoord (ix2 n 0) (1 : Fin 2) = _
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl)), Nat.add_zero]
    unfold GatherDims.start
    rw [dif_pos (show (1 : Fin 2) ∈ dims.startIndexMap from List.mem_singleton.mpr rfl)]
    have hsi : dims.siIdx (ix2 n 0)
        ⟨List.idxOf (1 : Fin 2) dims.startIndexMap,
          List.idxOf_lt_length_iff.2 (List.mem_singleton.mpr rfl)⟩ = ix3 n 0 0 := by
      funext c; refine Fin.ext ?_
      fin_cases c <;> rfl
    rw [hsi]
    rfl

theorem class_facts : ∀ a : Fin 21, IntOp.cmpi .slt (BitVec.ofNat 32 a.val) 0#32 = 0#1 ∧ IntOp.cmpi .sge (BitVec.ofNat 32 a.val) 0#32 = 1#1
    ∧ IntOp.cmpi .sle (BitVec.ofNat 32 a.val) 20#32 = 1#1 ∧ min (BitVec.ofNat 32 a.val).toInt.toNat 20 = a.val := by
  decide

/-- The start index of a position is its action. -/
theorem start_at (ha : ∀ n, x11 (ix1 n) = BitVec.ofNat 32 (act n).val) (n : Fin 65536) (i : S65536x1x1.Idx) (hi : (i 0).val = n.val) :
    val_main_call1_v5 (F := Ideal) x11 i = BitVec.ofNat 32 (act n).val := by
  have h68 : val_main_v68 (F := Ideal) x11 (idx_main_call1_v5 i) = BitVec.ofNat 32 (act n).val := by
    rw [val_main_v68_apply, ← ha]
    refine congrArg x11 (funext fun a => ?_)
    fin_cases a
    refine Fin.ext ?_
    have h1 : (i 1).val = 0 := Nat.lt_one_iff.mp (i 1).isLt
    have h2 : (i 2).val = 0 := Nat.lt_one_iff.mp (i 2).isLt
    show (((i 0).val * 1 + (i 1).val) * 1 + (i 2).val) / 1 = n.val
    omega
  rw [val_main_call1_v5_apply, val_main_call1_v4_apply, val_main_call1_v1_apply, val_main_call1_v0_apply, val_main_call1_c_apply, h68, (class_facts _).1]
  rfl

theorem fold_and {ι : Type} (t : Finset ι) (f : ι → BitVec 1) (hf : ∀ i, f i = 1#1) : t.fold IntOp.andi 1#1 f = 1#1 := by
  classical
  induction t using Finset.induction_on with
  | empty => rfl
  | insert a t h ih => rw [Finset.fold_insert h, hf, ih]; rfl

/-- Every start index is in range. -/
theorem inRange_at (ha : ∀ n, x11 (ix1 n) = BitVec.ofNat 32 (act n).val) (j : S65536x1.Idx) : val_main_call1_v12 (F := Ideal) x11 j = 1#1 := by
  unfold val_main_call1_v12
  rw [Host.reduce_eq_fold]
  refine fold_and _ _ fun i => ?_
  rw [val_main_call1_v11_apply, val_main_call1_v7_apply, val_main_call1_v10_apply, val_main_call1_v6_apply, val_main_call1_v9_apply,
    val_main_call1_v8_apply, val_main_call1_c_1_apply, val_main_call1_c_2_apply, start_at ha (i 0) i rfl, (class_facts _).2.1, (class_facts _).2.2.1]
  rfl

/-- The reference's log-probability of a position's action. -/
theorem taken_at (H : RefScore.Reals x0 x1 x2 x W b) (ha : ∀ n, x11 (ix1 n) = BitVec.ofNat 32 (act n).val) (n : Fin 65536) :
    val_main_v70 (F := Ideal) x0 x1 x2 x11 (ix1 n) = ((Rows.logP (RefScore.sc x W b n) (act n) : ℝ) : EReal) := by
  have hi : idx_main_v70 (ix1 n) = ix2 n 0 := by
    funext a; fin_cases a
    · exact Fin.ext (Nat.div_one _)
    · rfl
  rw [val_main_v70_apply, val_main_v69_apply, inRange_at ha, hi]
  show val_main_call1_v13 (F := Ideal) x0 x1 x2 x11 (ix2 n 0) = _
  unfold val_main_call1_v13
  rw [gather_at, ← RefScore.logP_at H]
  refine congrArg _ (congrArg (ix2 n) (Fin.ext ?_))
  show min (val_main_call1_v5 (F := Ideal) x11 (ix3 n 0 0)).toInt.toNat 20 = _
  rw [start_at ha n _ rfl, (class_facts _).2.2.2]

end Cert.RefTake

end
-- ==== Proof.RefValue.lean ====
module

public import proofs.«01_k».proof.Proof.RefTake
public import proofs.«01_k».proof.Proof.Step

@[expose] public section

noncomputable section

/-! The reference's three results, of real features, matrix and bias, a mask of ones, a fixed-mask of zeros and actions
among the 21 classes. -/

namespace Cert.RefValue

open Cert.ReferenceIdeal Cert.ReferenceIdeal.Gen Cert.ReferenceIdeal.Read Idealize.ShloMosaic
open Cert.KernelIdeal.Step (act hidden1 hidden2 value)

variable {x0 : (⟨S65536x128, .f32⟩ : BufTy).Contents (Elt Ideal)} {x1 : (⟨S128x21, .f32⟩ : BufTy).Contents (Elt Ideal)}
  {x2 : (⟨S21, .f32⟩ : BufTy).Contents (Elt Ideal)} {x3 : (⟨S128x128, .f32⟩ : BufTy).Contents (Elt Ideal)}
  {x4 : (⟨S128, .f32⟩ : BufTy).Contents (Elt Ideal)} {x5 : (⟨S128x64, .f32⟩ : BufTy).Contents (Elt Ideal)}
  {x6 : (⟨S64, .f32⟩ : BufTy).Contents (Elt Ideal)} {x7 : (⟨S64x1, .f32⟩ : BufTy).Contents (Elt Ideal)}
  {x8 : (⟨S1, .f32⟩ : BufTy).Contents (Elt Ideal)} {x9 x10 : (⟨S65536, .i1⟩ : BufTy).Contents (Elt Ideal)}
  {x11 : (⟨S65536, .i32⟩ : BufTy).Contents (Elt Ideal)}
  {x : Fin 65536 → Fin 128 → ℝ} {W : Fin 128 → Fin 21 → ℝ} {b : Fin 21 → ℝ} {cls : Fin 65536 → Fin 21}

/-- A sum over the indices of a row of 65536 is the sum over its positions. -/
theorem sum_positions (f : S65536.Idx → EReal) : ∑ j, f j = ∑ n : Fin 65536, f (ix1 n) :=
  Fintype.sum_equiv ⟨fun j => j 0, fun n => ix1 n, fun j => funext fun a => by fin_cases a; rfl, fun _ => rfl⟩ _ _ fun j =>
    congrArg f (funext fun a => by fin_cases a; rfl)

theorem mul_eq {y z w : EReal} (h : y = z) : y * w = z * w := by rw [h]

theorem add_eq {y z w : EReal} (h : y = z) : y + w = z + w := by rw [h]

theorem bit_one : FloatOps.uitofp (F := Ideal) .f32 (1#1) = (1 : EReal) := by
  simp [FloatOps.uitofp]

theorem count : ((0 : EReal) + ∑ _n : Fin 65536, (1 : EReal)) = ((65536 : ℝ) : EReal) := by
  rw [zero_add, show (1 : EReal) = ((1 : ℝ) : EReal) from rfl, ← Rows.coe_sum]
  simp

theorem max_count : max ((65536 : ℝ) : EReal) ((1 : ℝ) : EReal) = ((65536 : ℝ) : EReal) :=
  max_eq_left (EReal.coe_le_coe_iff.mpr (by norm_num))

/-- The first result: the sum of the log-probabilities of the actions. -/
theorem log_total (H : RefScore.Reals x0 x1 x2 x W b) (h9 : ∀ n, x9 (ix1 n) = 1#1) (h10 : ∀ n, x10 (ix1 n) = 0#1)
    (ha : ∀ n, x11 (ix1 n) = BitVec.ofNat 32 (cls n).val) (i : S_.Idx) :
    val_main_v72 (F := Ideal) x0 x1 x2 x9 x10 x11 i = ∑ n, ((Rows.logP (RefScore.sc x W b n) (cls n) : ℝ) : EReal) := by
  rw [val_main_v72_apply, val_main_cst_15_apply, Ideal.ofBits_def, Consts.zero, zero_add, sum_positions]
  refine Finset.sum_congr rfl fun n _ => ?_
  rw [val_main_v71_apply, RefTake.taken_at H ha, val_main_v67_apply, val_main_v66_apply, val_main_v65_apply, h9, h10, Ideal.mulf_def]
  rw [show IntOp.andi (~~~(0#1)) 1#1 = 1#1 from rfl, bit_one, mul_one]

/-- The second result: the mean entropy. -/
theorem mean_entropy (H : RefScore.Reals x0 x1 x2 x W b) (h9 : ∀ n, x9 (ix1 n) = 1#1) (h10 : ∀ n, x10 (ix1 n) = 0#1) (i : S_.Idx) :
    val_main_v80 (F := Ideal) x0 x1 x2 x9 x10 i = (∑ n, ((Rows.ent (RefScore.sc x W b n) : ℝ) : EReal)) * ((1 / 65536 : ℝ) : EReal) := by
  have h67 : ∀ n, val_main_v67 (F := Ideal) x9 x10 (ix1 n) = (1 : EReal) := fun n => by
    rw [val_main_v67_apply, val_main_v66_apply, val_main_v65_apply, h9, h10, show IntOp.andi (~~~(0#1)) 1#1 = 1#1 from rfl, bit_one]
  have h77 : val_main_v77 (F := Ideal) x9 x10 i = ((65536 : ℝ) : EReal) := by
    rw [val_main_v77_apply, val_main_v76_apply, val_main_cst_17_apply, val_main_cst_18_apply, Ideal.ofBits_def, Ideal.ofBits_def, Consts.zero,
      Consts.one, sum_positions]
    simp only [h67]
    rw [Ideal.maximumf_def, count, max_count]
  rw [val_main_v80_apply, h77, Ideal.hostDivf_def, Ideal.div_coe (by norm_num)]
  refine mul_eq ?_
  rw [val_main_v79_apply, val_main_cst_19_apply, Ideal.ofBits_def, Consts.zero, zero_add, sum_positions]
  refine Finset.sum_congr rfl fun n _ => ?_
  rw [val_main_v78_apply, RefScore.ent_at H, h67, Ideal.mulf_def, mul_one]

/-- The mean of the features over the positions. -/
theorem pooled_at (h9 : ∀ n, x9 (ix1 n) = 1#1) (h : Fin 128) :
    val_main_v9 (F := Ideal) x0 x9 (ix2 0 h) = (∑ n : Fin 65536, x0 (ix2 n h)) * ((1 / 65536 : ℝ) : EReal) := by
  have h0 : ∀ n, val_main_v0 (F := Ideal) x9 (ix1 n) = (1 : EReal) := fun n => by rw [val_main_v0_apply, h9, bit_one]
  have h2 : ∀ i, val_main_v2 (F := Ideal) x9 i = ((65536 : ℝ) : EReal) := fun i => by
    rw [val_main_v2_apply, val_main_v1_apply, val_main_cst_apply, val_main_cst_0_apply, Ideal.ofBits_def, Ideal.ofBits_def, Consts.zero,
      Consts.one, sum_positions]
    simp only [h0]
    rw [Ideal.maximumf_def, count, max_count]
  rw [val_main_v9_apply, val_main_v8_apply, h2, Ideal.hostDivf_def, Ideal.div_coe (by norm_num)]
  refine mul_eq ?_
  rw [val_main_v7_apply, val_main_v6_apply, val_main_cst_1_apply, Ideal.ofBits_def, Consts.zero, zero_add]
  refine Finset.sum_congr rfl fun n _ => ?_
  rw [val_main_v5_apply, val_main_v4_apply, val_main_v3_apply,
    show idx_main_v3 (idx_main_v4 (idx_main_v6 (idx_main_v7 (ix2 0 h)) n)) = ix1 n from by funext a; fin_cases a; rfl, h0, Ideal.mulf_def, mul_one]
  refine congrArg x0 (funext fun a => ?_)
  fin_cases a <;> rfl

/-- The reference's activation, which multiplies its cube the other way round, is the kernel's. -/
theorem act_eq (y : EReal) : y * (Ideal.ofBits .f32 0x3F000000#32 * (((1 : ℝ) : EReal)
    + Ideal.tanh (Ideal.ofBits .f32 0x3F4C422A#32 * (y + Ideal.ofBits .f32 0x3D372713#32 * (y * y * y))))) = act y := by
  rw [act, mul_comm (y * y) y]; rfl

/-- The third result: the value head of the mean features, with the biases as rows. -/
theorem value_at (h9 : ∀ n, x9 (ix1 n) = 1#1) (i : S1.Idx)
    (y4 : Vec Ideal Cert.KernelIdeal.S1x128 .f32) (h4 : ∀ c, y4 (ix2 0 c) = x4 (ix1 c))
    (y6 : Vec Ideal Cert.KernelIdeal.S1x64 .f32) (h6 : ∀ c, y6 (ix2 0 c) = x6 (ix1 c))
    (y8 : Vec Ideal Cert.KernelIdeal.S1x1 .f32) (h8 : y8 (ix2 0 0) = x8 (ix1 0)) :
    val_main_v45 (F := Ideal) x0 x3 x4 x5 x6 x7 x8 x9 i
      = value x3 y4 x5 y6 x7 y8 (fun h => (∑ n : Fin 65536, x0 (ix2 n h)) * ((1 / 65536 : ℝ) : EReal)) := by
  have l1 : ∀ c, val_main_v25 (F := Ideal) x0 x3 x4 x9 (ix2 0 c)
      = hidden1 x3 y4 (fun h => (∑ n : Fin 65536, x0 (ix2 n h)) * ((1 / 65536 : ℝ) : EReal)) c := fun c => by
    have e12 : val_main_v12 (F := Ideal) x0 x3 x4 x9 (ix2 0 c)
        = (∑ h : Fin 128, (∑ n : Fin 65536, x0 (ix2 n h)) * ((1 / 65536 : ℝ) : EReal) * x3 (ix2 h c)) + y4 (ix2 0 c) := by
      rw [val_main_v12_apply, val_main_v10_apply, val_main_v11_apply, Ideal.addf_def, h4,
        show idx_main_v11 (ix2 0 c) = ix1 c from by funext a; fin_cases a; rfl]
      refine add_eq (Finset.sum_congr rfl fun h _ => ?_)
      rw [show lidx_main_v10 (ix2 0 c) h = ix2 0 h from by funext a; fin_cases a <;> rfl,
        show ridx_main_v10 (ix2 0 c) h = ix2 h c from by funext a; fin_cases a <;> rfl, pooled_at h9]
    rw [val_main_v25_apply, val_main_v24_apply, val_main_v23_apply, val_main_cst_5_apply, val_main_v22_apply, val_main_v21_apply,
      val_main_cst_4_apply, val_main_v20_apply, val_main_v19_apply, val_main_v18_apply, val_main_cst_3_apply, val_main_v17_apply,
      val_main_v16_apply, val_main_v15_apply, val_main_cst_2_apply, val_main_v14_apply, val_main_v13_apply, e12]
    simp only [Ideal.mulf_def, Ideal.addf_def, Ideal.hostUnary_tanh_def, Ideal.ofBits_def, Consts.one]
    exact act_eq _
  have l2 : ∀ c, val_main_v41 (F := Ideal) x0 x3 x4 x5 x6 x9 (ix2 0 c)
      = hidden2 x3 y4 x5 y6 (fun h => (∑ n : Fin 65536, x0 (ix2 n h)) * ((1 / 65536 : ℝ) : EReal)) c := fun c => by
    have e28 : val_main_v28 (F := Ideal) x0 x3 x4 x5 x6 x9 (ix2 0 c)
        = (∑ h : Fin 128, hidden1 x3 y4 (fun h => (∑ n : Fin 65536, x0 (ix2 n h)) * ((1 / 65536 : ℝ) : EReal)) h * x5 (ix2 h c)) + y6 (ix2 0 c) := by
      rw [val_main_v28_apply, val_main_v26_apply, val_main_v27_apply, Ideal.addf_def, h6,
        show idx_main_v27 (ix2 0 c) = ix1 c from by funext a; fin_cases a; rfl]
      refine add_eq (Finset.sum_congr rfl fun h _ => ?_)
      rw [show lidx_main_v26 (ix2 0 c) h = ix2 0 h from by funext a; fin_cases a <;> rfl,
        show ridx_main_v26 (ix2 0 c) h = ix2 h c from by funext a; fin_cases a <;> rfl, l1]
    rw [val_main_v41_apply, val_main_v40_apply, val_main_v39_apply, val_main_cst_9_apply, val_main_v38_apply, val_main_v37_apply,
      val_main_cst_8_apply, val_main_v36_apply, val_main_v35_apply, val_main_v34_apply, val_main_cst_7_apply, val_main_v33_apply,
      val_main_v32_apply, val_main_v31_apply, val_main_cst_6_apply, val_main_v30_apply, val_main_v29_apply, e28]
    simp only [Ideal.mulf_def, Ideal.addf_def, Ideal.hostUnary_tanh_def, Ideal.ofBits_def, Consts.one]
    exact act_eq _
  rw [val_main_v45_apply, val_main_v44_apply, val_main_v42_apply, val_main_v43_apply, Ideal.addf_def, value, h8,
    show idx_main_v45 i = ix2 0 0 from by funext a; fin_cases a <;> rfl,
    show idx_main_v43 (ix2 0 0) = ix1 0 from by funext a; fin_cases a; rfl]
  refine add_eq (Finset.sum_congr rfl fun h _ => ?_)
  rw [show lidx_main_v42 (ix2 0 0) h = ix2 0 h from by funext a; fin_cases a <;> rfl,
    show ridx_main_v42 (ix2 0 0) h = ix2 h 0 from by funext a; fin_cases a <;> rfl, l2]

/-! ## The result array: the three numbers in a row -/

variable (x0 x1 x2 x3 x4 x5 x6 x7 x8 x9 x10 x11)

theorem result_0 : val_main_v83 (F := Ideal) x0 x1 x2 x3 x4 x5 x6 x7 x8 x9 x10 x11 (ix1 0) = val_main_v72 (F := Ideal) x0 x1 x2 x9 x10 x11 (fun a => a.elim0) := by
  unfold val_main_v83
  rw [concatenate_apply_piece (t := S3) 0 _ _ (ix1 0) 0 (by simp) S1 _ rfl rfl 0 rfl (ix1 0) (by decide) rfl, val_main_v81_apply]

theorem result_1 : val_main_v83 (F := Ideal) x0 x1 x2 x3 x4 x5 x6 x7 x8 x9 x10 x11 (ix1 1) = val_main_v80 (F := Ideal) x0 x1 x2 x9 x10 (fun a => a.elim0) := by
  unfold val_main_v83
  rw [concatenate_apply_piece (t := S3) 0 _ _ (ix1 1) 1 (by simp) S1 _ rfl rfl 1 rfl (ix1 0) (by decide) rfl, val_main_v82_apply]

theorem result_2 : val_main_v83 (F := Ideal) x0 x1 x2 x3 x4 x5 x6 x7 x8 x9 x10 x11 (ix1 2) = val_main_v45 (F := Ideal) x0 x3 x4 x5 x6 x7 x8 x9 (ix1 0) := by
  unfold val_main_v83
  rw [concatenate_apply_piece (t := S3) 0 _ _ (ix1 2) 2 (by simp) S1 _ rfl rfl 2 rfl (ix1 0) (by decide) rfl]

end Cert.RefValue

end
-- ==== Proof.Totals.lean ====
/- The kernel's three entries as sums over all 65536 positions, when features, weights and biases are real numbers and
   every action is one of the 21 classes. Hand-written, untrusted. -/
module

public import proofs.«01_k».proof.Proof.Blocks
public import proofs.«01_k».proof.Proof.RefValue

@[expose] public section

noncomputable section

namespace Cert.KernelIdeal.Totals

open Idealize.ShloMosaic Cert.KernelIdeal.Gen Cert.KernelIdeal.Host Cert.KernelIdeal.Blocks Cert.KernelIdeal.Points Cert.KernelIdeal.Step

variable (m : (ℓ : Loc nD τ sig) → Buf (Elt Ideal) ℓ) (c : Dev nD)

/-- The `i`-th grid point. -/
def pt (i : Fin 4) : Fin cfg0.N := ⟨i.val, i.isLt.trans_eq (show 4 = cfg0.N from N_0.symm)⟩

/-- A sum over points, blocks and rows is a sum over positions. -/
theorem sum_all (f : Fin 65536 → EReal) : ∑ i : Fin 4, ∑ k : Fin 8, ∑ j : Fin 2048, f (pos (pt i) k j) = ∑ n, f n := by
  have e : ∑ p : (Fin 4 × Fin 8) × Fin 2048, f (pos (pt p.1.1) p.1.2 p.2) = ∑ n, f n := by
    refine Fintype.sum_equiv ((Equiv.prodCongr finProdFinEquiv (Equiv.refl _)).trans finProdFinEquiv) _ _ fun p => ?_
    refine congrArg f (Fin.ext ?_)
    show (8 * p.1.1.val + p.1.2.val) * 2048 + p.2.val = p.2.val + 2048 * (p.1.2.val + 8 * p.1.1.val)
    omega
  rw [← e, Fintype.sum_prod_type, Fintype.sum_prod_type]

/-- The same with the rows outermost, as the lanes of an accumulator are summed. -/
theorem sum_lanes (f : Fin 65536 → EReal) : ∑ j : Fin 2048, ∑ i : Fin 4, ∑ k : Fin 8, f (pos (pt i) k j) = ∑ n, f n := by
  rw [← sum_all, Finset.sum_comm]
  refine Finset.sum_congr rfl fun i _ => ?_
  rw [Finset.sum_comm]

/-- The scores of one row, in the table's 24 rows, from what the row, the table and the bias column hold. -/
theorem holds_of {x : Fin 65536 → Fin 128 → ℝ} {W : Fin 128 → Fin 21 → ℝ} {b : Fin 21 → ℝ} {n : Fin 65536} {j : Fin 2048}
    {wt : Vec Ideal S24x128 .f32} {bc : Vec Ideal S24x1 .f32} {X : Vec Ideal S2048x128 .f32}
    (hw : ∀ (v : Fin 21) (h : Fin 128), wt (ix2 (v.castLE (by decide)) h) = ((W h v * 10 : ℝ) : EReal))
    (hb : ∀ v : Fin 21, bc (ix2 (v.castLE (by decide)) 0) = ((b v * 10 : ℝ) : EReal))
    (hX : ∀ h, X (ix2 j h) = ((x n h : ℝ) : EReal)) : Rows.Holds (fun v => Block.score wt bc X v j) (RefScore.sc x W b n) := by
  constructor
  · intro v
    unfold Block.score
    rw [if_pos (show (v.castLE (by decide) : Fin 24).val < 21 from v.isLt), hb,
      Finset.sum_congr rfl fun h _ => show wt (ix2 (v.castLE (by decide)) h) * X (ix2 j h) = ((W h v * 10 * x n h : ℝ) : EReal) by
        rw [hw, hX, ← EReal.coe_mul],
      ← Rows.coe_sum, ← EReal.coe_add]
    refine congrArg _ ?_
    rw [RefScore.sc, add_mul, Finset.sum_mul]
    exact congrArg (· + b v * 10) (Finset.sum_congr rfl fun h _ => by ring)
  · intro v hv
    unfold Block.score
    rw [if_neg (by omega), EReal.add_bot]

/-- The scores of one row of one block. -/
theorem holds {x : Fin 65536 → Fin 128 → ℝ} {W : Fin 128 → Fin 21 → ℝ} {b : Fin 21 → ℝ}
    (H : RefScore.Reals (A0 m c) (A1 m c) (A2 m c) x W b) (t : Fin cfg0.N) (k : Fin 8) (j : Fin 2048) :
    Rows.Holds (fun v => Block.score (iblk m c 16 t) (iblk m c 17 t) (feat m c t k) v j) (RefScore.sc x W b (pos t k j)) :=
  holds_of (fun v h => (whole_16 m c t _ h).trans ((wt_at m c v h).trans (by rw [H.hW, ← EReal.coe_mul])))
    (fun v => (whole_17 m c t _ 0).trans ((bc_at m c v).trans (by rw [H.hb, ← EReal.coe_mul])))
    (fun h => (feat_at m c t k j h).trans (H.hx _ _))

section Points

variable {x : Fin 65536 → Fin 128 → ℝ} {W : Fin 128 → Fin 21 → ℝ} {b : Fin 21 → ℝ} {cls : Fin 65536 → Fin 21}

theorem logAdd_eq (H : RefScore.Reals (A0 m c) (A1 m c) (A2 m c) x W b) (ha : ∀ n, A11 m c (ix1 n) = BitVec.ofNat 32 (cls n).val)
    (t : Fin cfg0.N) (j : Fin 2048) :
    logAdd m c t j = ∑ k : Fin 8, ((Rows.logP (RefScore.sc x W b (pos t k j)) (cls (pos t k j)) : ℝ) : EReal) :=
  Finset.sum_congr rfl fun k _ => Rows.kernel_logP (holds m c H t k j) _ _ ((actn_at m c t k j).trans (ha _))

theorem entAdd_eq (H : RefScore.Reals (A0 m c) (A1 m c) (A2 m c) x W b) (t : Fin cfg0.N) (j : Fin 2048) :
    entAdd m c t j = ∑ k : Fin 8, ((Rows.ent (RefScore.sc x W b (pos t k j)) : ℝ) : EReal) :=
  Finset.sum_congr rfl fun k _ => Rows.kernel_ent (holds m c H t k j)

end Points

theorem poolAdd_eq (t : Fin cfg0.N) (h : Fin 128) : poolAdd m c t h = ∑ k : Fin 8, ∑ j : Fin 2048, A0 m c (ix2 (pos t k j) h) :=
  Finset.sum_congr rfl fun k _ => Finset.sum_congr rfl fun j _ => feat_at m c t k j h

/-- The column sums before the last point, and what it adds: the sum over the four points. -/
theorem pool_all (h : Fin 128) :
    (outsAt0 m c 2 (pt 2).isLt).2.1 (ix2 0 h) + poolAdd m c (pt 3) h = ∑ i, poolAdd m c (pt i) h := by
  have e0 := pool_A m c (pt 0) (by decide) (by decide) h
  have e1 := pool_B m c (pt 1) (by decide) (by decide) h
  have e2 := pool_B m c (pt 2) (by decide) (by decide) h
  rw [zero_add] at e0
  have f2 : (outsAt0 m c 2 (pt 2).isLt).2.1 (ix2 0 h) = poolAdd m c (pt 0) h + poolAdd m c (pt 1) h + poolAdd m c (pt 2) h :=
    e2.trans (RefValue.add_eq (e1.trans (RefValue.add_eq e0)))
  rw [f2, Fin.sum_univ_four]

theorem logs_all (j : Fin 2048) :
    (outsAt0 m c 2 (pt 2).isLt).2.2 (ix2 0 j) + logAdd m c (pt 3) j = ∑ i, logAdd m c (pt i) j := by
  have e0 := logs_A m c (pt 0) (by decide) (by decide) j
  have e1 := logs_B m c (pt 1) (by decide) (by decide) j
  have e2 := logs_B m c (pt 2) (by decide) (by decide) j
  rw [zero_add] at e0
  have f2 : (outsAt0 m c 2 (pt 2).isLt).2.2 (ix2 0 j) = logAdd m c (pt 0) j + logAdd m c (pt 1) j + logAdd m c (pt 2) j :=
    e2.trans (RefValue.add_eq (e1.trans (RefValue.add_eq e0)))
  rw [f2, Fin.sum_univ_four]

theorem ents_all (j : Fin 2048) :
    (outsAt0 m c 2 (pt 2).isLt).2.2 (ix2 1 j) + entAdd m c (pt 3) j = ∑ i, entAdd m c (pt i) j := by
  have e0 := ents_A m c (pt 0) (by decide) (by decide) j
  have e1 := ents_B m c (pt 1) (by decide) (by decide) j
  have e2 := ents_B m c (pt 2) (by decide) (by decide) j
  rw [zero_add] at e0
  have f2 : (outsAt0 m c 2 (pt 2).isLt).2.2 (ix2 1 j) = entAdd m c (pt 0) j + entAdd m c (pt 1) j + entAdd m c (pt 2) j :=
    e2.trans (RefValue.add_eq (e1.trans (RefValue.add_eq e0)))
  rw [f2, Fin.sum_univ_four]

section Outs

variable {x : Fin 65536 → Fin 128 → ℝ} {W : Fin 128 → Fin 21 → ℝ} {b : Fin 21 → ℝ} {cls : Fin 65536 → Fin 21}

/-- The first entry: the sum of the actions' log-probabilities. -/
theorem log_out (H : RefScore.Reals (A0 m c) (A1 m c) (A2 m c) x W b) (ha : ∀ n, A11 m c (ix1 n) = BitVec.ofNat 32 (cls n).val) :
    (outsAt0 m c 3 (pt 3).isLt).1 (ix2 0 0) = ∑ n, ((Rows.logP (RefScore.sc x W b n) (cls n) : ℝ) : EReal) := by
  refine (out_0 m c (pt 3) (by decide) (by decide)).trans ?_
  refine (Finset.sum_congr rfl fun j _ => logs_all m c j).trans ?_
  refine Eq.trans (Finset.sum_congr rfl fun j _ => Finset.sum_congr rfl fun i _ => logAdd_eq m c H ha (pt i) j) ?_
  exact sum_lanes fun n => ((Rows.logP (RefScore.sc x W b n) (cls n) : ℝ) : EReal)

/-- The second entry: the mean entropy. -/
theorem ent_out (H : RefScore.Reals (A0 m c) (A1 m c) (A2 m c) x W b) :
    (outsAt0 m c 3 (pt 3).isLt).1 (ix2 0 1) = (∑ n, ((Rows.ent (RefScore.sc x W b n) : ℝ) : EReal)) * ((1 / 65536 : ℝ) : EReal) := by
  refine (out_1 m c (pt 3) (by decide) (by decide)).trans (RefValue.mul_eq ?_)
  refine (Finset.sum_congr rfl fun j _ => ents_all m c j).trans ?_
  refine Eq.trans (Finset.sum_congr rfl fun j _ => Finset.sum_congr rfl fun i _ => entAdd_eq m c H (pt i) j) ?_
  exact sum_lanes fun n => ((Rows.ent (RefScore.sc x W b n) : ℝ) : EReal)

end Outs

/-- Two matrices with the same entries. -/
theorem ext2 {p q : Nat} {X Y : (⟨2, ![p, q]⟩ : Shape).Idx → EReal} (h : ∀ i j, X (ix2 i j) = Y (ix2 i j)) : X = Y := by
  funext k
  have e : k = ix2 (k 0) (k 1) := by funext a; fin_cases a <;> rfl
  rw [e]
  exact h _ _

/-- The third entry: the value head at the mean features. -/
theorem value_out :
    (outsAt0 m c 3 (pt 3).isLt).1 (ix2 0 2) = value (A3 m c) (H14 m c) (A5 m c) (H15 m c) (A7 m c) (H16 m c)
      (fun h => (∑ n : Fin 65536, A0 m c (ix2 n h)) * ((1 / 65536 : ℝ) : EReal)) := by
  refine (out_2 m c (pt 3) (by decide) (by decide)).trans ?_
  have e : ∀ h : Fin 128, (outsAt0 m c 2 (pt 2).isLt).2.1 (ix2 0 h) + poolAdd m c (pt 3) h = ∑ n : Fin 65536, A0 m c (ix2 n h) := fun h => by
    rw [pool_all, ← sum_all]
    exact Finset.sum_congr rfl fun i _ => poolAdd_eq m c (pt i) h
  have w3 : iblk m c 18 (pt 3) = A3 m c := ext2 (whole_18 m c (pt 3))
  have w4 : iblk m c 19 (pt 3) = H14 m c := ext2 (whole_19 m c (pt 3))
  have w5 : iblk m c 20 (pt 3) = A5 m c := ext2 (whole_20 m c (pt 3))
  have w6 : iblk m c 21 (pt 3) = H15 m c := ext2 (whole_21 m c (pt 3))
  have w7 : iblk m c 22 (pt 3) = A7 m c := ext2 (whole_22 m c (pt 3))
  have w8 : iblk m c 23 (pt 3) = H16 m c := ext2 (whole_23 m c (pt 3))
  rw [w3, w4, w5, w6, w7, w8]
  exact congrArg _ (funext fun h => RefValue.mul_eq (e h))

end Cert.KernelIdeal.Totals

end
-- ==== Proof.Final.lean ====
/- The kernel's run, read: the result buffer's three entries are the first three lanes of what the output block holds
   after the last grid point. Hand-written, untrusted. -/
module

public import proofs.«01_k».proof.Proof.Totals
public import Idealize.ShloMosaic.Lib.Pipeline.Value
public import Idealize.ShloMosaic.Lib.StableHlo.Run
public import Idealize.ShloMosaic.Lib.Quiescent

@[expose] public section

noncomputable section

namespace Cert.KernelIdeal.Final

open Idealize.ShloMosaic Cert.KernelIdeal.Gen Cert.KernelIdeal.Host Cert.KernelIdeal.Totals
open Idealize.SL.Sem

variable (m : (ℓ : Loc nD τ sig) → Buf (Elt Ideal) ℓ) (ρ : Dev nD → PrngReg) (c : Dev nD)

/-- The output array: the output block after the last point, which is the whole array. -/
abbrev last : Buf (Elt Ideal) ((c.tc : Thread nD τ).loc main_v17) := (outsAt0 m c 3 (pt 3).isLt).1

/-- The one write-back, at the last point, writes it. -/
theorem flushed_eq (t : Fin cfg0.N) (hf : (cfg0.win 24).flush t = true) :
    (dats m 0 c).flushed 24 t = ((cfg0.win 24).blk t).view.read (Elt Ideal) (last m c) := by
  have h3 : t = t0_3 := by
    have h := (flush0_24 t).mp hf
    rcases fin_N0 t with rfl | rfl | rfl | rfl
    · exact absurd h (by decide)
    · exact absurd h (by decide)
    · exact absurd h (by decide)
    · rfl
  subst h3
  show (cfg0.win 24).cut (grid0.coords t0_3) ((dats m 0 c).after 24 t0_3) = _
  rw [after0_24]
  have hz' : (fun a => win0_24.index t0_3 a * main_v17.ty.shape.size a) = fun _ => 0 := funext fun a => by fin_cases a <;> decide +kernel
  exact (Memref.read_access_unit_zero (Elt Ideal) main_v17 hz' (fun a => by rw [congrFun hz' a]; simp) (last m c)).symm

/-- So the output array ends holding it. -/
theorem array_eq : (dats m 0 c).arrAt 24 cfg0.N = last m c :=
  (dats m 0 c).arrAt_eq_of_cover 24 (last m c) (flushed_eq m c) fun i =>
    ⟨t0_3, (flush0_24 t0_3).mpr rfl, by
      show i ∈ ((View.whole main_v17).slice (win0_24.rect t0_3)).set
      rw [View.set_slice_whole, Rect.mem_set_unit]
      intro a
      have h0 : (i 0 : Nat) < 1 := (i 0).isLt
      have h1 : (i 1 : Nat) < 128 := (i 1).isLt
      match a with
      | ⟨0, _⟩ =>
        show win0_24.index t0_3 0 * win0_24.size 0 ≤ (i 0 : Nat) ∧ (i 0 : Nat) < win0_24.index t0_3 0 * win0_24.size 0 + win0_24.xsize (grid0.coords t0_3) 0
        rw [show win0_24.index t0_3 0 * win0_24.size 0 = 0 from by decide +kernel, show win0_24.xsize (grid0.coords t0_3) 0 = 1 from by decide +kernel]
        omega
      | ⟨1, _⟩ =>
        show win0_24.index t0_3 1 * win0_24.size 1 ≤ (i 1 : Nat) ∧ (i 1 : Nat) < win0_24.index t0_3 1 * win0_24.size 1 + win0_24.xsize (grid0.coords t0_3) 1
        rw [show win0_24.index t0_3 1 * win0_24.size 1 = 0 from by decide +kernel, show win0_24.xsize (grid0.coords t0_3) 1 = 128 from by decide +kernel]
        omega⟩

/-- The result buffer: the first three lanes of the output array. -/
abbrev result : S3.Idx → EReal :=
  shapeCast S3 (extractStridedSlice S1x3 ![0, 0] (last m c) slices_S1x128_S1x3_0_0) shapeCasts_S1x3_S3

/-- The operations after the kernel leave it in the result buffer. -/
theorem tail_eq : Pipeline.afterTail₀ cfgs (dats m) 0 (V0 m) [hostOps1] c main_v19 = result m c := by
  unfold Pipeline.afterTail₀
  simp only [hostOps1, List.flatten_cons, List.flatten_nil, List.append_nil, List.cons_append, List.nil_append]
  after_results
  have e := (dats m 0 c).withArrays_arrAt launch₀0.sharedIn (V0 m c) (A_eq m c) 24
  rw [array_eq] at e
  exact congrArg (fun y : S1x128.Idx → EReal => shapeCast S3 (extractStridedSlice S1x3 ![0, 0] y slices_S1x128_S1x3_0_0) shapeCasts_S1x3_S3) e

/-- Entry `l` of the result buffer. -/
theorem result_at (l : Fin 3) : result m c (ix1 l) = last m c (ix2 0 (l.castLE (by decide))) := by
  refine (shapeCast_apply _ shapeCasts_S1x3_S3 (ix1 l) (ix2 0 l)
    (by rewrite [Shape.rowMajor_val_two, Shape.rowMajor_val_one]; show 0 * 3 + l.val = l.val; omega)).trans ?_
  refine congrArg (last m c) ?_
  funext a
  fin_cases a
  · rfl
  · exact Fin.ext (Nat.zero_add _)

/-- The kernel's run: the result buffer at `result`, the arguments as launched, every counter at zero. -/
theorem run : θ_run defs (onTc (τ := τ) (main (F := Ideal))) ⟨m, fun _ => 0, ρ⟩ fun r =>
    (∀ c : Dev nD, r.2.mem ((c.tc : Thread nD τ).loc main_v19) = result m c) ∧ r.2.sem = fun _ => 0 :=
  (θ_run defs _ _).mono (fun _ h => ⟨fun c => ((h.1 c).2 main_v19 (Pipeline.mem_restRefs_of main_v19 (by decide) (by decide))).trans (tail_eq m c), h.2⟩)
    (run_main_quiescent m ρ)

end Cert.KernelIdeal.Final

end
-- ==== Proof.Pre.lean ====
/- What the precondition says, read entry by entry: features, weights and biases are real numbers, every position is
   counted, and every action is one of the 21 classes. Hand-written, untrusted. -/
module

public import proofs.«01_k».proof.Proof.Final
public import proofs.«01_k».proof.Proof.Gen.Pre_finite_and_unmasked

@[expose] public section

noncomputable section

namespace Cert.Pre

open Idealize.ShloMosaic Cert.KernelIdeal Cert.KernelIdeal.Host

/-- An extended real whose absolute value is below `+∞` is a real number. -/
theorem real_of_abs {y : EReal} (h : Ideal.cmp .olt (max y (-y)) (Ideal.ofBits .f32 0x7F800000#32) = 1#1) : ∃ r : ℝ, y = (r : EReal) := by
  have e : Ideal.ofBits .f32 0x7F800000#32 = (⊤ : EReal) := by simp [Ideal.ofBits, Ideal.ieee]
  rw [e] at h
  induction y using EReal.rec with
  | bot => simp [Ideal.cmp] at h
  | top => simp [Ideal.cmp] at h
  | coe r => exact ⟨r, rfl⟩

/-- A word between 0 and 21, read signed, is one of the 21 classes. -/
theorem class_of {w : BitVec 32} (h : IntOp.andi (IntOp.cmpi .sge w 0#32) (IntOp.cmpi .slt w 21#32) = 1#1) :
    ∃ a : Fin 21, w = BitVec.ofNat 32 a.val := by
  have h1 : (0#32).sle w = true ∧ w.slt 21#32 = true := by
    revert h
    unfold IntOp.andi IntOp.cmpi
    dsimp only
    cases (0#32).sle w <;> cases w.slt 21#32 <;> decide
  have h2 : w.toNat < 21 := by
    obtain ⟨p, q⟩ := h1
    rw [BitVec.sle_iff_toInt_le] at p
    rw [BitVec.slt_iff_toInt_lt] at q
    have := BitVec.toInt_eq_toNat_cond w
    have hw := w.isLt
    simp at p q
    omega
  exact ⟨⟨w.toNat, h2⟩, by simp⟩

variable (m : (ℓ : Loc nD τ sig) → Buf (Elt Ideal) ℓ)

/-- The two masks. -/
abbrev A9 (c : Dev nD) : S65536.Idx → BitVec 1 := (m (c.tc.loc main_arg9) :)
@[inherit_doc A9] abbrev A10 (c : Dev nD) : S65536.Idx → BitVec 1 := (m (c.tc.loc main_arg10) :)

/-- The precondition, read. -/
theorem read (h : Cert.Pre_KernelIdeal_finite_and_unmasked m) (c : Dev nD) :
    (∃ x W b, RefScore.Reals (A0 m c) (A1 m c) (A2 m c) x W b) ∧ (∀ n, A9 m c (ix1 n) = 1#1) ∧ (∀ n, A10 m c (ix1 n) = 0#1)
      ∧ ∃ cls : Fin 65536 → Fin 21, ∀ n, A11 m c (ix1 n) = BitVec.ofNat 32 (cls n).val := by
  obtain ⟨h0, h1, h2, h9, h10, h11⟩ := h c
  refine ⟨?_, fun n => congrFun h9 (ix1 n), fun n => ?_, ?_⟩
  · have r0 : ∀ (n : Fin 65536) (k : Fin 128), ∃ r : ℝ, A0 m c (ix2 n k) = (r : EReal) := fun n k => real_of_abs (congrFun h0 (ix2 n k))
    have r1 : ∀ (k : Fin 128) (v : Fin 21), ∃ r : ℝ, A1 m c (ix2 k v) = (r : EReal) := fun k v => real_of_abs (congrFun h1 (ix2 k v))
    have r2 : ∀ v : Fin 21, ∃ r : ℝ, A2 m c (ix1 v) = (r : EReal) := fun v => real_of_abs (congrFun h2 (ix1 v))
    choose x hx using r0
    choose W hW using r1
    choose b hb using r2
    exact ⟨x, W, b, ⟨hx, hW, hb⟩⟩
  · have e : ~~~(A10 m c (ix1 n)) = 1#1 := congrFun h10 (ix1 n)
    generalize A10 m c (ix1 n) = w at e ⊢
    revert e
    revert w
    decide
  · have r : ∀ n : Fin 65536, ∃ a : Fin 21, A11 m c (ix1 n) = BitVec.ofNat 32 a.val := fun n => class_of (congrFun h11 (ix1 n))
    choose cls hcls using r
    exact ⟨cls, hcls⟩

end Cert.Pre

end
-- ==== Proof.Equal.lean ====
/- Under the precondition the kernel's result is the reference's: entry by entry the same real sum, mean and value.
   Hand-written, untrusted. -/
module

public import proofs.«01_k».proof.Proof.Pre

@[expose] public section

noncomputable section

namespace Cert.Equal

open Idealize.ShloMosaic Cert.KernelIdeal Cert.KernelIdeal.Host

variable (m : (ℓ : Loc nD τ sig) → Buf (Elt Ideal) ℓ)

/-- The reference's result, of the kernel's arguments. -/
abbrev wanted (c : Dev nD) : S3.Idx → EReal :=
  Cert.ReferenceIdeal.Read.val_main_v83 (F := Ideal) (A0 m c) (A1 m c) (A2 m c) (A3 m c) (A4 m c) (A5 m c) (A6 m c) (A7 m c) (A8 m c)
    (Pre.A9 m c) (Pre.A10 m c) (A11 m c)

/-- The two results agree. -/
theorem equal (h : Cert.Pre_KernelIdeal_finite_and_unmasked m) (c : Dev nD) : wanted m c = Final.result m c := by
  obtain ⟨⟨x, W, b, H⟩, h9, h10, cls, ha⟩ := Pre.read m h c
  have e0 : wanted m c (ix1 0) = Final.result m c (ix1 0) :=
    (RefValue.result_0 ..).trans ((RefValue.log_total H h9 h10 ha _).trans
      ((Totals.log_out m c H ha).symm.trans (Final.result_at m c 0).symm))
  have e1 : wanted m c (ix1 1) = Final.result m c (ix1 1) :=
    (RefValue.result_1 ..).trans ((RefValue.mean_entropy H h9 h10 _).trans
      ((Totals.ent_out m c H).symm.trans (Final.result_at m c 1).symm))
  have e2 : wanted m c (ix1 2) = Final.result m c (ix1 2) :=
    (RefValue.result_2 ..).trans ((RefValue.value_at h9 _ (H14 m c) (b1_at m c) (H15 m c) (b2_at m c) (H16 m c) (b3_at m c 0)).trans
      ((Totals.value_out m c).symm.trans (Final.result_at m c 2).symm))
  funext i
  obtain ⟨l, rfl⟩ : ∃ l : Fin 3, i = ix1 l := ⟨i 0, by funext a; fin_cases a; rfl⟩
  fin_cases l
  · exact e0
  · exact e1
  · exact e2

end Cert.Equal

end
-- ==== Proof.lean ====
/- The proof of the five claims: both kernels and the reference end with their arguments unchanged and every counter at
   zero, the ideal kernel is the kernel with the named constant "pad", and the ideal kernel's result is the
   reference's. Hand-written, untrusted. -/
module

public import proofs.«01_k».proof.Defs
public import proofs.«01_k».proof.Proof.BitsFrame
public import proofs.«01_k».proof.Proof.Equal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_pi_pre : Cert.quiescent_KernelIdeal_pre_finite_and_unmasked := fun m ρ _ => Cert.KernelIdeal.Gen.frame m ρ

theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_ri_pre : Cert.quiescent_ReferenceIdeal_pre_finite_and_unmasked := fun m ρ _ => frame_ri m ρ trivial

theorem preserves : Cert.preserves_Kernel_KernelIdeal :=
  IdealRules.named_const.statement Cert.KernelIdeal.κ "pad" .f32 0xCE6E6B28#32 ⊥ rfl

theorem algebraic : Cert.algebraic_KernelIdeal_ReferenceIdeal_pre_finite_and_unmasked := by
  intro m ρ m' ρ' hpre hagree
  refine ⟨fun c => Cert.KernelIdeal.Final.result m c,
    (θ_run _ _ _).mono (fun _ h c => ⟨h.1.1 c, h.2 c⟩)
      (θ_run_and (Cert.KernelIdeal.Final.run m ρ) (Cert.KernelIdeal.Gen.unchanged m ρ)), ?_⟩
  refine (θ_run Cert.ReferenceIdeal.defs _ _).mono (fun _ h c => ⟨(h c).1.trans ?_, (h c).2⟩) (Cert.ReferenceIdeal.Value.run (F := Ideal) m' ρ')
  obtain ⟨g0, g1, g2, g3, g4, g5, g6, g7, g8, g9, g10, g11⟩ := hagree c
  rw [Cert.ReferenceIdeal.Read.val_main_v83_eq, g0, g1, g2, g3, g4, g5, g6, g7, g8, g9, g10, g11]
  exact Cert.Equal.equal m hpre c

theorem claim : Cert.Claim := ⟨Cert.Kernel.Gen.facts, Cert.KernelIdeal.Gen.facts, Cert.ReferenceIdeal.Gen.facts, Cert.Pre_finite_and_unmasked.Gen.facts,
  frame_p, frame_pi, frame_pi_pre, frame_ri, frame_ri_pre, preserves, algebraic⟩

end Cert.Proof

end
